-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bins_in_order [hPre_bins_in_order : Cert.Pre_bins_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_bins_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_bins_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_bins_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_bins_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bins_in_order [hPre_bins_in_order : Cert.Pre_bins_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bins_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_bins_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_bins_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_bins_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_bins_in_order [hKernelIdeal : Cert.KernelIdeal.Facts] [hPre_bins_in_order : Cert.Pre_bins_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bins_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_bins_in_order [hReferenceIdeal : Cert.ReferenceIdeal.Facts] [hPre_bins_in_order : Cert.Pre_bins_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bins_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_bins_in_order [hKernelIdeal : Cert.KernelIdeal.Facts] [hReferenceIdeal : Cert.ReferenceIdeal.Facts] [hPre_bins_in_order : Cert.Pre_bins_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bins_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_bins_in_order : Cert.Pre_bins_in_order.Facts),
    quiescent_Kernel (hKernel := hKernel)
    ∧ quiescent_KernelIdeal (hKernelIdeal := hKernelIdeal)
    ∧ quiescent_KernelIdeal_pre_bins_in_order (hKernelIdeal := hKernelIdeal) (hPre_bins_in_order := hPre_bins_in_order)
    ∧ quiescent_ReferenceIdeal (hReferenceIdeal := hReferenceIdeal)
    ∧ quiescent_ReferenceIdeal_pre_bins_in_order (hReferenceIdeal := hReferenceIdeal) (hPre_bins_in_order := hPre_bins_in_order)
    ∧ preserves_Kernel_KernelIdeal
    ∧ algebraic_KernelIdeal_ReferenceIdeal_pre_bins_in_order (hKernelIdeal := hKernelIdeal) (hReferenceIdeal := hReferenceIdeal) (hPre_bins_in_order := hPre_bins_in_order)
-- ==== Pre_bins_in_order.lean ====
abbrev S64x3000x257 : Shape := ⟨3, ![64, 3000, 257]⟩
abbrev S82 : Shape := ⟨1, ![82]⟩
abbrev S64x80 : Shape := ⟨2, ![64, 80]⟩
abbrev S64 : Shape := ⟨1, ![64]⟩
abbrev S128x64x3 : Shape := ⟨3, ![128, 64, 3]⟩
abbrev S128 : Shape := ⟨1, ![128]⟩
abbrev S128x128x3 : Shape := ⟨3, ![128, 128, 3]⟩
abbrev S64x128 : Shape := ⟨2, ![64, 128]⟩
abbrev S128x64 : Shape := ⟨2, ![128, 64]⟩
abbrev S256 : Shape := ⟨1, ![256]⟩
abbrev S512x256 : Shape := ⟨2, ![512, 256]⟩
abbrev S512 : Shape := ⟨1, ![512]⟩
abbrev S81 : Shape := ⟨1, ![81]⟩
abbrev S_ : Shape := ⟨0, ![]⟩

class Facts : Prop where
  slices_S82_S81_0 : S82.Slices ![0] S81
  slices_S82_S81_1 : S82.Slices ![1] S81
  bcast_S_S81 : S_.BroadcastsInDim S81 (![] : Fin 0 → Fin S81.rank)
  bcast_S_S128x64 : S_.BroadcastsInDim S128x64 (![] : Fin 0 → Fin S128x64.rank)
  bcast_S_S128 : S_.BroadcastsInDim S128 (![] : Fin 0 → Fin S128.rank)

variable [Facts]

def fn {F : FTy → Type} [FloatOps F] (main_arg0 : FVec F S64x3000x257 .f32) (main_arg1 : FVec F S82 .f32) (main_arg2 : FVec F S64x80 .f32) (main_arg3 : FVec F S64 .f32) (main_arg4 : FVec F S128x64x3 .f32) (main_arg5 : FVec F S128 .f32) (main_arg6 : FVec F S128x128x3 .f32) (main_arg7 : FVec F S128 .f32) (main_arg8 : FVec F S128x128x3 .f32) (main_arg9 : FVec F S128 .f32) (main_arg10 : FVec F S64x128 .f32) (main_arg11 : FVec F S64 .f32) (main_arg12 : FVec F S128x64 .f32) (main_arg13 : FVec F S128 .f32) (main_arg14 : FVec F S256 .f32) (main_arg15 : FVec F S256 .f32) (main_arg16 : FVec F S512x256 .f32) (main_arg17 : FVec F S512 .f32) : IVec S81 1 × IVec S81 1 × IVec S128x64 1 × IVec S128 1 :=
  let main_v0 : FVec F S81 .f32 := (extractStridedSlice S81 ![0] · slices_S82_S81_0) main_arg1
  let main_v1 : FVec F S81 .f32 := (extractStridedSlice S81 ![1] · slices_S82_S81_1) main_arg1
  let main_v2 : IVec S81 1 := cmpf .ole main_v0 main_v1
  let main_v3 : FVec F S81 .f32 := (extractStridedSlice S81 ![0] · slices_S82_S81_0) main_arg1
  let main_cst : FVec F S_ .f32 := constant S_ .f32 0x43808000#32
  let main_v4 : FVec F S81 .f32 := broadcastInDim S81 ![] bcast_S_S81 main_cst
  let main_v5 : IVec S81 1 := cmpf .olt main_v3 main_v4
  let main_v6 : FVec F S128x64 .f32 := Host.absf main_arg12
  let main_cst_0 : FVec F S_ .f32 := constant S_ .f32 0x7F800000#32
  let main_v7 : FVec F S128x64 .f32 := broadcastInDim S128x64 ![] bcast_S_S128x64 main_cst_0
  let main_v8 : IVec S128x64 1 := cmpf .olt main_v6 main_v7
  let main_v9 : FVec F S128 .f32 := Host.absf main_arg13
  let main_cst_1 : FVec F S_ .f32 := constant S_ .f32 0x7F800000#32
  let main_v10 : FVec F S128 .f32 := broadcastInDim S128 ![] bcast_S_S128 main_cst_1
  let main_v11 : IVec S128 1 := cmpf .olt main_v9 main_v10
  (main_v2, main_v5, main_v8, main_v11)
-- ==== Kernel.lean ====
abbrev S64x3000x257 : Shape := ⟨3, ![64, 3000, 257]⟩
abbrev S82 : Shape := ⟨1, ![82]⟩
abbrev S64x80 : Shape := ⟨2, ![64, 80]⟩
abbrev S64 : Shape := ⟨1, ![64]⟩
abbrev S128x64x3 : Shape := ⟨3, ![128, 64, 3]⟩
abbrev S128 : Shape := ⟨1, ![128]⟩
abbrev S128x128x3 : Shape := ⟨3, ![128, 128, 3]⟩
abbrev S64x128 : Shape := ⟨2, ![64, 128]⟩
abbrev S128x64 : Shape := ⟨2, ![128, 64]⟩
abbrev S256 : Shape := ⟨1, ![256]⟩
abbrev S512x256 : Shape := ⟨2, ![512, 256]⟩
abbrev S512 : Shape := ⟨1, ![512]⟩
abbrev S257x64x3000 : Shape := ⟨3, ![257, 64, 3000]⟩
abbrev S80 : Shape := ⟨1, ![80]⟩
abbrev S_ : Shape := ⟨0, ![]⟩
abbrev S80x1 : Shape := ⟨2, ![80, 1]⟩
abbrev S80x8 : Shape := ⟨2, ![80, 8]⟩
abbrev S128x3x64 : Shape := ⟨3, ![128, 3, 64]⟩
abbrev S128x192 : Shape := ⟨2, ![128, 192]⟩
abbrev S128x3x128 : Shape := ⟨3, ![128, 3, 128]⟩
abbrev S128x384 : Shape := ⟨2, ![128, 384]⟩
abbrev S256x512 : Shape := ⟨2, ![256, 512]⟩
abbrev S64x1 : Shape := ⟨2, ![64, 1]⟩
abbrev S128x1 : Shape := ⟨2, ![128, 1]⟩
abbrev S256x1 : Shape := ⟨2, ![256, 1]⟩
abbrev S1x512 : Shape := ⟨2, ![1, 512]⟩
abbrev S32x2x512 : Shape := ⟨3, ![32, 2, 512]⟩
abbrev S1x2x512 : Shape := ⟨3, ![1, 2, 512]⟩
abbrev S4x257x3000 : Shape := ⟨3, ![4, 257, 3000]⟩
abbrev S80x256 : Shape := ⟨2, ![80, 256]⟩
abbrev S4 : Shape := ⟨1, ![4]⟩
abbrev S1 : Shape := ⟨1, ![1]⟩
abbrev S1x257x3000 : Shape := ⟨3, ![1, 257, 3000]⟩
abbrev S257x3000 : Shape := ⟨2, ![257, 3000]⟩
abbrev S257x1x3000 : Shape := ⟨3, ![257, 1, 3000]⟩
abbrev S256x3000 : Shape := ⟨2, ![256, 3000]⟩
abbrev S80x3000 : Shape := ⟨2, ![80, 3000]⟩
abbrev S1x3000 : Shape := ⟨2, ![1, 3000]⟩
abbrev S64x3000 : Shape := ⟨2, ![64, 3000]⟩
abbrev S64x2 : Shape := ⟨2, ![64, 2]⟩
abbrev S64x2998 : Shape := ⟨2, ![64, 2998]⟩
abbrev S192x3000 : Shape := ⟨2, ![192, 3000]⟩
abbrev S128x3000 : Shape := ⟨2, ![128, 3000]⟩
abbrev S128x3 : Shape := ⟨2, ![128, 3]⟩
abbrev S128x2997 : Shape := ⟨2, ![128, 2997]⟩
abbrev S384x3000 : Shape := ⟨2, ![384, 3000]⟩
abbrev S128x4 : Shape := ⟨2, ![128, 4]⟩
abbrev S128x2996 : Shape := ⟨2, ![128, 2996]⟩
abbrev S1x1 : Shape := ⟨2, ![1, 1]⟩
abbrev S1x1x512 : Shape := ⟨3, ![1, 1, 512]⟩
abbrev S64x512 : Shape := ⟨2, ![64, 512]⟩

abbrev nBuf : Space → Nat
  | .hbm => 67
  | .vmem => 21
  | .smem => 0
  | _ => 0

abbrev bufTy : (tb : Table) → Fin (tcTables nBuf tb) → BufTy
  | .hbm, ⟨0, _⟩ => ⟨S64x3000x257, .f32⟩
  | .hbm, ⟨1, _⟩ => ⟨S82, .f32⟩
  | .hbm, ⟨2, _⟩ => ⟨S64x80, .f32⟩
  | .hbm, ⟨3, _⟩ => ⟨S64, .f32⟩
  | .hbm, ⟨4, _⟩ => ⟨S128x64x3, .f32⟩
  | .hbm, ⟨5, _⟩ => ⟨S128, .f32⟩
  | .hbm, ⟨6, _⟩ => ⟨S128x128x3, .f32⟩
  | .hbm, ⟨7, _⟩ => ⟨S128, .f32⟩
  | .hbm, ⟨8, _⟩ => ⟨S128x128x3, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S128x64, .f32⟩
  | .hbm, ⟨13, _⟩ => ⟨S128, .f32⟩
  | .hbm, ⟨14, _⟩ => ⟨S256, .f32⟩
  | .hbm, ⟨15, _⟩ => ⟨S256, .f32⟩
  | .hbm, ⟨16, _⟩ => ⟨S512x256, .f32⟩
  | .hbm, ⟨17, _⟩ => ⟨S512, .f32⟩
  | .hbm, ⟨18, _⟩ => ⟨S257x64x3000, .f32⟩
  | .hbm, ⟨19, _⟩ => ⟨S82, .f32⟩
  | .hbm, ⟨20, _⟩ => ⟨S80, .f32⟩
  | .hbm, ⟨21, _⟩ => ⟨S80, .f32⟩
  | .hbm, ⟨22, _⟩ => ⟨S80, .f32⟩
  | .hbm, ⟨23, _⟩ => ⟨S80, .f32⟩
  | .hbm, ⟨24, _⟩ => ⟨S80, .f32⟩
  | .hbm, ⟨25, _⟩ => ⟨S80, .f32⟩
  | .hbm, ⟨26, _⟩ => ⟨S80, .i32⟩
  | .hbm, ⟨27, _⟩ => ⟨S_, .i32⟩
  | .hbm, ⟨28, _⟩ => ⟨S80, .i32⟩
  | .hbm, ⟨29, _⟩ => ⟨S80, .i1⟩
  | .hbm, ⟨30, _⟩ => ⟨S80, .f32⟩
  | .hbm, ⟨31, _⟩ => ⟨S_, .f32⟩
  | .hbm, ⟨32, _⟩ => ⟨S80, .f32⟩
  | .hbm, ⟨33, _⟩ => ⟨S80x1, .f32⟩
  | .hbm, ⟨34, _⟩ => ⟨S80x1, .f32⟩
  | .hbm, ⟨35, _⟩ => ⟨S80x1, .f32⟩
  | .hbm, ⟨36, _⟩ => ⟨S80x1, .f32⟩
  | .hbm, ⟨37, _⟩ => ⟨S80x1, .f32⟩
  | .hbm, ⟨38, _⟩ => ⟨S80x1, .f32⟩
  | .hbm, ⟨39, _⟩ => ⟨S80x1, .f32⟩
  | .hbm, ⟨40, _⟩ => ⟨S80x1, .f32⟩
  | .hbm, ⟨41, _⟩ => ⟨S80x8, .f32⟩
  | .hbm, ⟨42, _⟩ => ⟨S64x80, .bf16⟩
  | .hbm, ⟨43, _⟩ => ⟨S128x3x64, .f32⟩
  | .hbm, ⟨44, _⟩ => ⟨S128x192, .f32⟩
  | .hbm, ⟨45, _⟩ => ⟨S128x192, .bf16⟩
  | .hbm, ⟨46, _⟩ => ⟨S128x3x128, .f32⟩
  | .hbm, ⟨47, _⟩ => ⟨S128x384, .f32⟩
  | .hbm, ⟨48, _⟩ => ⟨S128x384, .bf16⟩
  | .hbm, ⟨49, _⟩ => ⟨S128x3x128, .f32⟩
  | .hbm, ⟨50, _⟩ => ⟨S128x384, .f32⟩
  | .hbm, ⟨51, _⟩ => ⟨S128x384, .bf16⟩
  | .hbm, ⟨52, _⟩ => ⟨S64x128, .bf16⟩
  | .hbm, ⟨53, _⟩ => ⟨S128x64, .bf16⟩
  | .hbm, ⟨54, _⟩ => ⟨S256x512, .f32⟩
  | .hbm, ⟨55, _⟩ => ⟨S256x512, .bf16⟩
  | .hbm, ⟨56, _⟩ => ⟨S64x1, .f32⟩
  | .hbm, ⟨57, _⟩ => ⟨S128x1, .f32⟩
  | .hbm, ⟨58, _⟩ => ⟨S128x1, .f32⟩
  | .hbm, ⟨59, _⟩ => ⟨S128x1, .f32⟩
  | .hbm, ⟨60, _⟩ => ⟨S64x1, .f32⟩
  | .hbm, ⟨61, _⟩ => ⟨S128x1, .f32⟩
  | .hbm, ⟨62, _⟩ => ⟨S256x1, .f32⟩
  | .hbm, ⟨63, _⟩ => ⟨S256x1, .f32⟩
  | .hbm, ⟨64, _⟩ => ⟨S1x512, .f32⟩
  | .hbm, ⟨65, _⟩ => ⟨S32x2x512, .f32⟩
  | .hbm, ⟨66, _⟩ => ⟨S64x512, .f32⟩
  | .local _ .vmem, ⟨0, _⟩ => ⟨S80x8, .f32⟩
  | .local _ .vmem, ⟨1, _⟩ => ⟨S64x80, .bf16⟩
  | .local _ .vmem, ⟨2, _⟩ => ⟨S64x1, .f32⟩
  | .local _ .vmem, ⟨3, _⟩ => ⟨S128x192, .bf16⟩
  | .local _ .vmem, ⟨4, _⟩ => ⟨S128x1, .f32⟩
  | .local _ .vmem, ⟨5, _⟩ => ⟨S128x384, .bf16⟩
  | .local _ .vmem, ⟨6, _⟩ => ⟨S128x1, .f32⟩
  | .local _ .vmem, ⟨7, _⟩ => ⟨S128x384, .bf16⟩
  | .local _ .vmem, ⟨8, _⟩ => ⟨S128x1, .f32⟩
  | .local _ .vmem, ⟨9, _⟩ => ⟨S64x128, .bf16⟩
  | .local _ .vmem, ⟨10, _⟩ => ⟨S64x1, .f32⟩
  | .local _ .vmem, ⟨11, _⟩ => ⟨S128x64, .bf16⟩
  | .local _ .vmem, ⟨12, _⟩ => ⟨S128x1, .f32⟩
  | .local _ .vmem, ⟨13, _⟩ => ⟨S256x1, .f32⟩
  | .local _ .vmem, ⟨14, _⟩ => ⟨S256x1, .f32⟩
  | .local _ .vmem, ⟨15, _⟩ => ⟨S256x512, .bf16⟩
  | .local _ .vmem, ⟨16, _⟩ => ⟨S1x512, .f32⟩
  | .local _ .vmem, ⟨17, _⟩ => ⟨S1x2x512, .f32⟩
  | .local _ .vmem, ⟨18, _⟩ => ⟨S1x2x512, .f32⟩
  | .local _ .vmem, ⟨19, _⟩ => ⟨S4x257x3000, .f32⟩
  | .local _ .vmem, ⟨20, _⟩ => ⟨S80x256, .bf16⟩
  | _, _ => ⟨S64x3000x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg17_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem17_1 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c1_i32 : BitVec 32 := 1#32
  let v5 : BitVec 32 := Scalar.addi arg0 c1_i32
  let c32_i32 : BitVec 32 := 32#32
  let v6 : BitVec 1 := Scalar.cmpi .slt v5 c32_i32
  let v7 : BitVec 32 := Scalar.extui v6
  let c0_i32_2 : BitVec 32 := 0#32
  let v8 : BitVec 1 := Scalar.cmpi .ne v7 c0_i32_2
  v8

def k0_off1 (i : grid0.Coords) (c0_i32_150 : BitVec 32) : Fin 1 → Nat :=
  let arg0 : BitVec 32 := BitVec.ofNat 32 (i 0).val
  let c1_i32_144 : BitVec 32 := 1#32
  let v332 : BitVec 32 := Scalar.addi arg0 c1_i32_144
  let c2_i32_145 : BitVec 32 := 2#32
  let v333 : BitVec 32 := Scalar.remsi v332 c2_i32_145
  let c2_i32_146 : BitVec 32 := 2#32
  let v334 : BitVec 32 := Scalar.muli v333 c2_i32_146
  let v338 : BitVec 32 := Scalar.addi v334 c0_i32_150
  ![v338.toNat]
def k0_off2 (i : grid0.Coords) (c0_i32_150 : BitVec 32) : Fin 3 → Nat :=
  let arg0 : BitVec 32 := BitVec.ofNat 32 (i 0).val
  let c1_i32_144 : BitVec 32 := 1#32
  let v332 : BitVec 32 := Scalar.addi arg0 c1_i32_144
  let c2_i32_145 : BitVec 32 := 2#32
  let v333 : BitVec 32 := Scalar.remsi v332 c2_i32_145
  let c2_i32_146 : BitVec 32 := 2#32
  let v334 : BitVec 32 := Scalar.muli v333 c2_i32_146
  let v338 : BitVec 32 := Scalar.addi v334 c0_i32_150
  let c0_i32_151 : BitVec 32 := 0#32
  let c0_i32_152 : BitVec 32 := 0#32
  ![v338.toNat, 0, 0]
def k0_off3 (i : grid0.Coords) (c0_i32_149 : BitVec 32) : Fin 3 → Nat :=
  let c0_i32_153 : BitVec 32 := 0#32
  let c2_i32_147 : BitVec 32 := 2#32
  let arg0 : BitVec 32 := BitVec.ofNat 32 (i 0).val
  let v335 : BitVec 32 := Scalar.muli c2_i32_147 arg0
  let c2_i32_148 : BitVec 32 := 2#32
  let v336 : BitVec 32 := Scalar.addi v335 c2_i32_148
  let v337 : BitVec 32 := Scalar.addi v336 c0_i32_149
  let c0_i32_154 : BitVec 32 := 0#32
  ![0, v337.toNat, 0]
def k0_off4 (i : grid0.Coords) (c0_i32_7 : BitVec 32) : Fin 1 → Nat :=
  let arg0 : BitVec 32 := BitVec.ofNat 32 (i 0).val
  let c2_i32 : BitVec 32 := 2#32
  let v0 : BitVec 32 := Scalar.remsi arg0 c2_i32
  let c2_i32_0 : BitVec 32 := 2#32
  let v1 : BitVec 32 := Scalar.muli v0 c2_i32_0
  let v14 : BitVec 32 := Scalar.addi v1 c0_i32_7
  ![v14.toNat]
def k0_off5 (i : grid0.Coords) (c0_i32_7 : BitVec 32) : Fin 3 → Nat :=
  let arg0 : BitVec 32 := BitVec.ofNat 32 (i 0).val
  let c2_i32 : BitVec 32 := 2#32
  let v0 : BitVec 32 := Scalar.remsi arg0 c2_i32
  let c2_i32_0 : BitVec 32 := 2#32
  let v1 : BitVec 32 := Scalar.muli v0 c2_i32_0
  let v14 : BitVec 32 := Scalar.addi v1 c0_i32_7
  let c0_i32_8 : BitVec 32 := 0#32
  let c0_i32_9 : BitVec 32 := 0#32
  ![v14.toNat, 0, 0]
def k0_off6 (i : grid0.Coords) (c0_i32_6 : BitVec 32) : Fin 3 → Nat :=
  let c0_i32_10 : BitVec 32 := 0#32
  let c2_i32_5 : BitVec 32 := 2#32
  let arg0 : BitVec 32 := BitVec.ofNat 32 (i 0).val
  let v12 : BitVec 32 := Scalar.muli c2_i32_5 arg0
  let v13 : BitVec 32 := Scalar.addi v12 c0_i32_6
  let c0_i32_11 : BitVec 32 := 0#32
  ![0, v13.toNat, 0]
def k0_off7 (i : grid0.Coords) (c0_i32_12 : BitVec 32) : Fin 3 → Nat :=
  let arg0 : BitVec 32 := BitVec.ofNat 32 (i 0).val
  let c2_i32 : BitVec 32 := 2#32
  let v0 : BitVec 32 := Scalar.remsi arg0 c2_i32
  let c2_i32_0 : BitVec 32 := 2#32
  let v1 : BitVec 32 := Scalar.muli v0 c2_i32_0
  let v21 : BitVec 32 := Scalar.addi v1 c0_i32_12
  let v22 : Index := Scalar.indexCast v21
  let c0 : Index := 0#32
  let c0_13 : Index := 0#32
  ![v22.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S80x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x80 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x2x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S64x3000x257 : Shape := ⟨3, ![64, 3000, 257]⟩
abbrev S82 : Shape := ⟨1, ![82]⟩
abbrev S64x80 : Shape := ⟨2, ![64, 80]⟩
abbrev S64 : Shape := ⟨1, ![64]⟩
abbrev S128x64x3 : Shape := ⟨3, ![128, 64, 3]⟩
abbrev S128 : Shape := ⟨1, ![128]⟩
abbrev S128x128x3 : Shape := ⟨3, ![128, 128, 3]⟩
abbrev S64x128 : Shape := ⟨2, ![64, 128]⟩
abbrev S128x64 : Shape := ⟨2, ![128, 64]⟩
abbrev S256 : Shape := ⟨1, ![256]⟩
abbrev S512x256 : Shape := ⟨2, ![512, 256]⟩
abbrev S512 : Shape := ⟨1, ![512]⟩
abbrev S257 : Shape := ⟨1, ![257]⟩
abbrev S80 : Shape := ⟨1, ![80]⟩
abbrev S80x1 : Shape := ⟨2, ![80, 1]⟩
abbrev S1x257 : Shape := ⟨2, ![1, 257]⟩
abbrev S80x257 : Shape := ⟨2, ![80, 257]⟩
abbrev S_ : Shape := ⟨0, ![]⟩
abbrev S64x3000x80 : Shape := ⟨3, ![64, 3000, 80]⟩
abbrev S64x3000x1 : Shape := ⟨3, ![64, 3000, 1]⟩
abbrev S64x3000 : Shape := ⟨2, ![64, 3000]⟩
abbrev S1 : Shape := ⟨1, ![1]⟩
abbrev S64x3000x64 : Shape := ⟨3, ![64, 3000, 64]⟩
abbrev S1x1x64 : Shape := ⟨3, ![1, 1, 64]⟩
abbrev S64x64x3000 : Shape := ⟨3, ![64, 64, 3000]⟩
abbrev S64x64x3004 : Shape := ⟨3, ![64, 64, 3004]⟩
abbrev S128x64x1 : Shape := ⟨3, ![128, 64, 1]⟩
abbrev S64x3000x128 : Shape := ⟨3, ![64, 3000, 128]⟩
abbrev S64x128x3000 : Shape := ⟨3, ![64, 128, 3000]⟩
abbrev S1x128x1 : Shape := ⟨3, ![1, 128, 1]⟩
abbrev S64x128x3006 : Shape := ⟨3, ![64, 128, 3006]⟩
abbrev S128x128x1 : Shape := ⟨3, ![128, 128, 1]⟩
abbrev S128x128 : Shape := ⟨2, ![128, 128]⟩
abbrev S64x128x3008 : Shape := ⟨3, ![64, 128, 3008]⟩
abbrev S1x64x1 : Shape := ⟨3, ![1, 64, 1]⟩
abbrev S128x64x3000 : Shape := ⟨3, ![128, 64, 3000]⟩
abbrev S64x128x1 : Shape := ⟨3, ![64, 128, 1]⟩
abbrev S64x256 : Shape := ⟨2, ![64, 256]⟩
abbrev S64x1 : Shape := ⟨2, ![64, 1]⟩
abbrev S1x256 : Shape := ⟨2, ![1, 256]⟩
abbrev S256x512 : Shape := ⟨2, ![256, 512]⟩
abbrev S64x512 : Shape := ⟨2, ![64, 512]⟩
abbrev S1x512 : Shape := ⟨2, ![1, 512]⟩

abbrev nBuf : Space → Nat
  | .hbm => 281
  | .vmem => 0
  | .smem => 0
  | _ => 0

abbrev hbmTy0_0 (i : Nat) : BufTy := match i % 128 with
  | 0 => ⟨S64x3000x257, .f32⟩
  | 1 => ⟨S82, .f32⟩
  | 2 => ⟨S64x80, .f32⟩
  | 3 => ⟨S64, .f32⟩
  | 4 => ⟨S128x64x3, .f32⟩
  | 5 => ⟨S128, .f32⟩
  | 6 => ⟨S128x128x3, .f32⟩
  | 7 => ⟨S128, .f32⟩
  | 8 => ⟨S128x128x3, .f32⟩
  | 9 => ⟨S128, .f32⟩
  | 10 => ⟨S64x128, .f32⟩
  | 11 => ⟨S64, .f32⟩
  | 12 => ⟨S128x64, .f32⟩
  | 13 => ⟨S128, .f32⟩
  | 14 => ⟨S256, .f32⟩
  | 15 => ⟨S256, .f32⟩
  | 16 => ⟨S512x256, .f32⟩
  | 17 => ⟨S512, .f32⟩
  | 18 => ⟨S82, .f32⟩
  | 19 => ⟨S82, .f32⟩
  | 20 => ⟨S82, .i32⟩
  | 21 => ⟨S257, .i32⟩
  | 22 => ⟨S257, .f32⟩
  | 23 => ⟨S80, .f32⟩
  | 24 => ⟨S80x1, .f32⟩
  | 25 => ⟨S80, .f32⟩
  | 26 => ⟨S80x1, .f32⟩
  | 27 => ⟨S80, .f32⟩
  | 28 => ⟨S80x1, .f32⟩
  | 29 => ⟨S80, .i32⟩
  | 30 => ⟨S80x1, .i32⟩
  | 31 => ⟨S80, .i32⟩
  | 32 => ⟨S80x1, .i32⟩
  | 33 => ⟨S80, .i32⟩
  | 34 => ⟨S80x1, .i32⟩
  | 35 => ⟨S1x257, .i32⟩
  | 36 => ⟨S80x257, .i32⟩
  | 37 => ⟨S80x257, .i32⟩
  | 38 => ⟨S80x257, .i1⟩
  | 39 => ⟨S1x257, .i32⟩
  | 40 => ⟨S80x257, .i32⟩
  | 41 => ⟨S80x257, .i32⟩
  | 42 => ⟨S80x257, .i1⟩
  | 43 => ⟨S80x257, .i1⟩
  | 44 => ⟨S1x257, .i32⟩
  | 45 => ⟨S80x257, .i32⟩
  | 46 => ⟨S80x257, .i32⟩
  | 47 => ⟨S80x257, .i1⟩
  | 48 => ⟨S1x257, .i32⟩
  | 49 => ⟨S80x257, .i32⟩
  | 50 => ⟨S80x257, .i32⟩
  | 51 => ⟨S80x257, .i1⟩
  | 52 => ⟨S80x257, .i1⟩
  | 53 => ⟨S80x1, .f32⟩
  | 54 => ⟨S80x1, .f32⟩
  | 55 => ⟨S80x1, .f32⟩
  | 56 => ⟨S80x1, .f32⟩
  | 57 => ⟨S1x257, .f32⟩
  | 58 => ⟨S80x257, .f32⟩
  | 59 => ⟨S80x257, .f32⟩
  | 60 => ⟨S80x257, .f32⟩
  | 61 => ⟨S_, .f32⟩
  | 62 => ⟨S80x1, .f32⟩
  | 63 => ⟨S80x1, .i1⟩
  | 64 => ⟨S_, .f32⟩
  | 65 => ⟨S_, .f32⟩
  | 66 => ⟨S80x1, .f32⟩
  | 67 => ⟨S80x1, .f32⟩
  | 68 => ⟨S80x257, .f32⟩
  | 69 => ⟨S80x257, .f32⟩
  | 70 => ⟨S1x257, .f32⟩
  | 71 => ⟨S80x257, .f32⟩
  | 72 => ⟨S80x257, .f32⟩
  | 73 => ⟨S80x257, .f32⟩
  | 74 => ⟨S_, .f32⟩
  | 75 => ⟨S80x1, .f32⟩
  | 76 => ⟨S80x1, .i1⟩
  | 77 => ⟨S_, .f32⟩
  | 78 => ⟨S_, .f32⟩
  | 79 => ⟨S80x1, .f32⟩
  | 80 => ⟨S80x1, .f32⟩
  | 81 => ⟨S80x257, .f32⟩
  | 82 => ⟨S80x257, .f32⟩
  | 83 => ⟨S_, .f32⟩
  | 84 => ⟨S_, .f32⟩
  | 85 => ⟨S80x257, .f32⟩
  | 86 => ⟨S80x257, .f32⟩
  | 87 => ⟨S80x257, .f32⟩
  | 88 => ⟨S80, .i32⟩
  | 89 => ⟨S_, .i32⟩
  | 90 => ⟨S80, .i32⟩
  | 91 => ⟨S80, .i1⟩
  | 92 => ⟨S80x1, .i1⟩
  | 93 => ⟨S80x1, .f32⟩
  | 94 => ⟨S80x257, .f32⟩
  | 95 => ⟨S80x257, .f32⟩
  | 96 => ⟨S64x3000x80, .f32⟩
  | 97 => ⟨S64x3000x1, .f32⟩
  | 98 => ⟨S64x3000, .f32⟩
  | 99 => ⟨S_, .i32⟩
  | 100 => ⟨S1, .i32⟩
  | 101 => ⟨S64x3000x80, .f32⟩
  | 102 => ⟨S64x3000x64, .f32⟩
  | 103 => ⟨S1x1x64, .f32⟩
  | 104 => ⟨S64x3000x64, .f32⟩
  | 105 => ⟨S64x3000x64, .f32⟩
  | 106 => ⟨S_, .f32⟩
  | 107 => ⟨S64x3000x64, .f32⟩
  | 108 => ⟨S64x3000x64, .f32⟩
  | 109 => ⟨S64x64x3000, .f32⟩
  | 110 => ⟨S_, .i32⟩
  | 111 => ⟨S_, .f32⟩
  | 112 => ⟨S64x64x3004, .f32⟩
  | 113 => ⟨S128x64x1, .f32⟩
  | 114 => ⟨S128x64, .f32⟩
  | 115 => ⟨S64x64x3000, .f32⟩
  | 116 => ⟨S64x3000x128, .f32⟩
  | 117 => ⟨S64x128x3000, .f32⟩
  | 118 => ⟨S_, .f32⟩
  | 119 => ⟨S64x128x3000, .f32⟩
  | 120 => ⟨S64x128x3000, .f32⟩
  | 121 => ⟨S128x64x1, .f32⟩
  | 122 => ⟨S128x64, .f32⟩
  | 123 => ⟨S64x64x3000, .f32⟩
  | 124 => ⟨S64x3000x128, .f32⟩
  | 125 => ⟨S64x128x3000, .f32⟩
  | 126 => ⟨S64x128x3000, .f32⟩
  | 127 => ⟨S128x64x1, .f32⟩
  | _ => ⟨S64x3000x257, .f32⟩

abbrev hbmTy0_1 (i : Nat) : BufTy := match i % 128 with
  | 0 => ⟨S128x64, .f32⟩
  | 1 => ⟨S64x64x3000, .f32⟩
  | 2 => ⟨S64x3000x128, .f32⟩
  | 3 => ⟨S64x128x3000, .f32⟩
  | 4 => ⟨S64x128x3000, .f32⟩
  | 5 => ⟨S1x128x1, .f32⟩
  | 6 => ⟨S64x128x3000, .f32⟩
  | 7 => ⟨S64x128x3000, .f32⟩
  | 8 => ⟨S_, .i32⟩
  | 9 => ⟨S_, .f32⟩
  | 10 => ⟨S64x128x3006, .f32⟩
  | 11 => ⟨S128x128x1, .f32⟩
  | 12 => ⟨S128x128, .f32⟩
  | 13 => ⟨S64x128x3000, .f32⟩
  | 14 => ⟨S64x3000x128, .f32⟩
  | 15 => ⟨S64x128x3000, .f32⟩
  | 16 => ⟨S_, .f32⟩
  | 17 => ⟨S64x128x3000, .f32⟩
  | 18 => ⟨S64x128x3000, .f32⟩
  | 19 => ⟨S128x128x1, .f32⟩
  | 20 => ⟨S128x128, .f32⟩
  | 21 => ⟨S64x128x3000, .f32⟩
  | 22 => ⟨S64x3000x128, .f32⟩
  | 23 => ⟨S64x128x3000, .f32⟩
  | 24 => ⟨S64x128x3000, .f32⟩
  | 25 => ⟨S128x128x1, .f32⟩
  | 26 => ⟨S128x128, .f32⟩
  | 27 => ⟨S64x128x3000, .f32⟩
  | 28 => ⟨S64x3000x128, .f32⟩
  | 29 => ⟨S64x128x3000, .f32⟩
  | 30 => ⟨S64x128x3000, .f32⟩
  | 31 => ⟨S1x128x1, .f32⟩
  | 32 => ⟨S64x128x3000, .f32⟩
  | 33 => ⟨S64x128x3000, .f32⟩
  | 34 => ⟨S64x128x3000, .f32⟩
  | 35 => ⟨S64x128x3000, .f32⟩
  | 36 => ⟨S_, .i32⟩
  | 37 => ⟨S_, .f32⟩
  | 38 => ⟨S64x128x3008, .f32⟩
  | 39 => ⟨S128x128x1, .f32⟩
  | 40 => ⟨S128x128, .f32⟩
  | 41 => ⟨S64x128x3000, .f32⟩
  | 42 => ⟨S64x3000x128, .f32⟩
  | 43 => ⟨S64x128x3000, .f32⟩
  | 44 => ⟨S_, .f32⟩
  | 45 => ⟨S64x128x3000, .f32⟩
  | 46 => ⟨S64x128x3000, .f32⟩
  | 47 => ⟨S128x128x1, .f32⟩
  | 48 => ⟨S128x128, .f32⟩
  | 49 => ⟨S64x128x3000, .f32⟩
  | 50 => ⟨S64x3000x128, .f32⟩
  | 51 => ⟨S64x128x3000, .f32⟩
  | 52 => ⟨S64x128x3000, .f32⟩
  | 53 => ⟨S128x128x1, .f32⟩
  | 54 => ⟨S128x128, .f32⟩
  | 55 => ⟨S64x128x3000, .f32⟩
  | 56 => ⟨S64x3000x128, .f32⟩
  | 57 => ⟨S64x128x3000, .f32⟩
  | 58 => ⟨S64x128x3000, .f32⟩
  | 59 => ⟨S1x128x1, .f32⟩
  | 60 => ⟨S64x128x3000, .f32⟩
  | 61 => ⟨S64x128x3000, .f32⟩
  | 62 => ⟨S64x128x3000, .f32⟩
  | 63 => ⟨S64x128x3000, .f32⟩
  | 64 => ⟨S64x64x3000, .f32⟩
  | 65 => ⟨S64x64x3000, .f32⟩
  | 66 => ⟨S1x64x1, .f32⟩
  | 67 => ⟨S64x64x3000, .f32⟩
  | 68 => ⟨S64x64x3000, .f32⟩
  | 69 => ⟨S64x64x3000, .f32⟩
  | 70 => ⟨S128x64x3000, .f32⟩
  | 71 => ⟨S64x128x3000, .f32⟩
  | 72 => ⟨S1x128x1, .f32⟩
  | 73 => ⟨S64x128x3000, .f32⟩
  | 74 => ⟨S64x128x3000, .f32⟩
  | 75 => ⟨S_, .f32⟩
  | 76 => ⟨S64x128, .f32⟩
  | 77 => ⟨S_, .f32⟩
  | 78 => ⟨S64x128, .f32⟩
  | 79 => ⟨S64x128, .f32⟩
  | 80 => ⟨S64x128x1, .f32⟩
  | 81 => ⟨S64x128x3000, .f32⟩
  | 82 => ⟨S64x128x3000, .f32⟩
  | 83 => ⟨S64x128x3000, .f32⟩
  | 84 => ⟨S_, .f32⟩
  | 85 => ⟨S64x128, .f32⟩
  | 86 => ⟨S64x128x1, .f32⟩
  | 87 => ⟨S64x128x3000, .f32⟩
  | 88 => ⟨S64x128x3000, .f32⟩
  | 89 => ⟨S64x128x3000, .f32⟩
  | 90 => ⟨S_, .f32⟩
  | 91 => ⟨S64x128, .f32⟩
  | 92 => ⟨S64x128x3000, .f32⟩
  | 93 => ⟨S64x128x3000, .f32⟩
  | 94 => ⟨S_, .f32⟩
  | 95 => ⟨S64x128, .f32⟩
  | 96 => ⟨S64x128, .f32⟩
  | 97 => ⟨S64x128, .f32⟩
  | 98 => ⟨S_, .f32⟩
  | 99 => ⟨S_, .f32⟩
  | 100 => ⟨S64x128, .f32⟩
  | 101 => ⟨S64x128, .f32⟩
  | 102 => ⟨S64x128, .f32⟩
  | 103 => ⟨S64x256, .f32⟩
  | 104 => ⟨S_, .f32⟩
  | 105 => ⟨S64, .f32⟩
  | 106 => ⟨S64x1, .f32⟩
  | 107 => ⟨S_, .f32⟩
  | 108 => ⟨S64x1, .f32⟩
  | 109 => ⟨S64x1, .f32⟩
  | 110 => ⟨S_, .i32⟩
  | 111 => ⟨S_, .f32⟩
  | 112 => ⟨S64, .f32⟩
  | 113 => ⟨S64x1, .f32⟩
  | 114 => ⟨S_, .f32⟩
  | 115 => ⟨S64x1, .f32⟩
  | 116 => ⟨S64x1, .f32⟩
  | 117 => ⟨S64x256, .f32⟩
  | 118 => ⟨S64x256, .f32⟩
  | 119 => ⟨S64x256, .f32⟩
  | 120 => ⟨S_, .f32⟩
  | 121 => ⟨S_, .f32⟩
  | 122 => ⟨S_, .f32⟩
  | 123 => ⟨S_, .f32⟩
  | 124 => ⟨S64, .f32⟩
  | 125 => ⟨S64x1, .f32⟩
  | 126 => ⟨S64x1, .f32⟩
  | 127 => ⟨S64x1, .f32⟩
  | _ => ⟨S64x3000x257, .f32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S64x1, .f32⟩
  | 5 => ⟨S64x1, .f32⟩
  | 6 => ⟨S64x256, .f32⟩
  | 7 => ⟨S64x256, .f32⟩
  | 8 => ⟨S_, .f32⟩
  | 9 => ⟨S64x1, .f32⟩
  | 10 => ⟨S64x1, .f32⟩
  | 11 => ⟨S64x1, .f32⟩
  | 12 => ⟨S64x256, .f32⟩
  | 13 => ⟨S64x256, .f32⟩
  | 14 => ⟨S1x256, .f32⟩
  | 15 => ⟨S64x256, .f32⟩
  | 16 => ⟨S64x256, .f32⟩
  | 17 => ⟨S1x256, .f32⟩
  | 18 => ⟨S64x256, .f32⟩
  | 19 => ⟨S64x256, .f32⟩
  | 20 => ⟨S256x512, .f32⟩
  | 21 => ⟨S64x512, .f32⟩
  | 22 => ⟨S1x512, .f32⟩
  | 23 => ⟨S64x512, .f32⟩
  | 24 => ⟨S64x512, .f32⟩
  | _ => ⟨S64x3000x257, .f32⟩

abbrev hbmTy (i : Nat) : BufTy := match i / 128 with
  | 0 => hbmTy0_0 i
  | 1 => hbmTy0_1 i
  | 2 => hbmTy0_2 i
  | _ => ⟨S64x3000x257, .f32⟩

abbrev bufTy : (tb : Table) → Fin (tcTables nBuf tb) → BufTy
  | .hbm, ⟨i, _⟩ => hbmTy i
  | _, _ => ⟨S64x3000x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst : Ref sig .tc := ⟨.hbm, 61, rfl⟩
abbrev main_v43 : Ref sig .tc := ⟨.hbm, 62, rfl⟩
abbrev main_v44 : Ref sig .tc := ⟨.hbm, 63, rfl⟩
abbrev main_cst_0 : Ref sig .tc := ⟨.hbm, 64, rfl⟩
abbrev main_call1_v0 : Ref sig .tc := ⟨.hbm, 65, rfl⟩
abbrev main_call1_v1 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_1 : Ref sig .tc := ⟨.hbm, 74, rfl⟩
abbrev main_v52 : Ref sig .tc := ⟨.hbm, 75, rfl⟩
abbrev main_v53 : Ref sig .tc := ⟨.hbm, 76, rfl⟩
abbrev main_cst_2 : Ref sig .tc := ⟨.hbm, 77, rfl⟩
abbrev main_call2_v0 : Ref sig .tc := ⟨.hbm, 78, rfl⟩
abbrev main_call2_v1 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_3 : Ref sig .tc := ⟨.hbm, 83, rfl⟩
abbrev main_call3_v0 : Ref sig .tc := ⟨.hbm, 84, rfl⟩
abbrev main_call3_v1 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_4 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call5_cst : Ref sig .tc := ⟨.hbm, 106, rfl⟩
abbrev main_call5_v0 : Ref sig .tc := ⟨.hbm, 107, rfl⟩
abbrev main_v75 : Ref sig .tc := ⟨.hbm, 108, rfl⟩
abbrev main_v76 : Ref sig .tc := ⟨.hbm, 109, rfl⟩
abbrev main_c_5 : Ref sig .tc := ⟨.hbm, 110, rfl⟩
abbrev main_call6_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_6 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_7 : Ref sig .tc := ⟨.hbm, 136, rfl⟩
abbrev main_call7_v0 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_8 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_c_9 : Ref sig .tc := ⟨.hbm, 164, rfl⟩
abbrev main_call8_v0 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_10 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_11 : Ref sig .tc := ⟨.hbm, 203, rfl⟩
abbrev main_v161 : Ref sig .tc := ⟨.hbm, 204, rfl⟩
abbrev main_cst_12 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_cst_13 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_cst_14 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_cst_15 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_16 : Ref sig .tc := ⟨.hbm, 226, rfl⟩
abbrev main_call9_v0 : Ref sig .tc := ⟨.hbm, 227, rfl⟩
abbrev main_call9_v1 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_17 : Ref sig .tc := ⟨.hbm, 232, rfl⟩
abbrev main_v182 : Ref sig .tc := ⟨.hbm, 233, rfl⟩
abbrev main_v183 : Ref sig .tc := ⟨.hbm, 234, rfl⟩
abbrev main_cst_18 : Ref sig .tc := ⟨.hbm, 235, rfl⟩
abbrev main_v184 : Ref sig .tc := ⟨.hbm, 236, rfl⟩
abbrev main_v185 : Ref sig .tc := ⟨.hbm, 237, rfl⟩
abbrev main_c_19 : Ref sig .tc := ⟨.hbm, 238, rfl⟩
abbrev main_call10_cst : Ref sig .tc := ⟨.hbm, 239, rfl⟩
abbrev main_call10_v0 : Ref sig .tc := ⟨.hbm, 240, rfl⟩
abbrev main_call10_v1 : Ref sig .tc := ⟨.hbm, 241, rfl⟩
abbrev main_call10_cst_0 : Ref sig .tc := ⟨.hbm, 242, rfl⟩
abbrev main_call10_v2 : Ref sig .tc := ⟨.hbm, 243, rfl⟩
abbrev main_call10_v3 : Ref sig .tc := ⟨.hbm, 244, rfl⟩
abbrev main_call10_v4 : Ref sig .tc := ⟨.hbm, 245, rfl⟩
abbrev main_call10_v5 : Ref sig .tc := ⟨.hbm, 246, rfl⟩
abbrev main_call10_v6 : Ref sig .tc := ⟨.hbm, 247, rfl⟩
abbrev main_call10_v7 : Ref sig .tc := ⟨.hbm, 248, rfl⟩
abbrev main_call10_cst_1 : Ref sig .tc := ⟨.hbm, 249, rfl⟩
abbrev main_call10_v8 : Ref sig .tc := ⟨.hbm, 250, rfl⟩
abbrev main_call10_cst_2 : Ref sig .tc := ⟨.hbm, 251, rfl⟩
abbrev main_call10_v9 : Ref sig .tc := ⟨.hbm, 252, rfl⟩
abbrev main_call10_v10 : Ref sig .tc := ⟨.hbm, 253, rfl⟩
abbrev main_call10_v11 : Ref sig .tc := ⟨.hbm, 254, rfl⟩
abbrev main_call10_v12 : Ref sig .tc := ⟨.hbm, 255, rfl⟩
abbrev main_call10_cst_3 : Ref sig .tc := ⟨.hbm, 256, rfl⟩
abbrev main_call10_v13 : Ref sig .tc := ⟨.hbm, 257, rfl⟩
abbrev main_call10_cst_4 : Ref sig .tc := ⟨.hbm, 258, rfl⟩
abbrev main_call10_call0_v0 : Ref sig .tc := ⟨.hbm, 259, rfl⟩
abbrev main_call10_call0_v1 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_cst_20 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩

abbrev nD : Nat := 1
abbrev τ : Topo := Topo.v7x

variable {F : FTy → Type} [FloatOps F]
-- ==== Proof.KernelIdeal.Ring.lean ====
module

public import proofs.«01_k».proof.Proof.Gen.KernelIdeal.Frame
public import proofs.«01_k».proof.Proof.Gen.KernelIdeal.Skeleton
public import Idealize.ShloMosaic.Lib.Claim

/-!
# The kernel's four slots

The kernel streams the batch rows of its operand, two a grid point, through the four slots of a scratch buffer: point
`t` starts rows `2 * t + 2` and `2 * t + 3` and waits for rows `2 * t` and `2 * t + 1`. Row `n` lands in slot `n % 4`,
on semaphore cell `n % 4`. Here are the names of the slots, cells and rows, what is held of them before each point,
and the launch's set-up.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's set-up -/

/-- The scratch buffer of the slots, the scratch buffer of the filterbank, and the operand left in main memory. -/
abbrev scM : Memref sig .tc .vmem S4x257x3000 .f32 := Memref.whole cc0_scratch0
abbrev fbM : Memref sig .tc .vmem S80x256 .bf16 := Memref.whole cc0_scratch1
abbrev hbM : Memref sig .tc .hbm S257x64x3000 .f32 := Memref.whole main_v0

/-- The contents of a memref's buffer on core `c`, and the buffer held whole. -/
abbrev MBuf (c : Dev nD) {sp : Space} {S : Shape} {e : EltTy} (M : Memref sig .tc sp S e) : Type :=
  Buf (Elt F) (M.view.loc (c : Thread nD τ))
abbrev held (c : Dev nD) {sp : Space} {S : Shape} {e : EltTy} (M : Memref sig .tc sp S e) (f : MBuf (F := F) c M) : sProp 𝕄 :=
  M.view.loc (c : Thread nD τ) ↦{fullShare} f

/-- The kernel's own four semaphore cells. -/
abbrev osem : Fin 4 → SemLoc sig := fun j =>
  (![SemLoc.dma 19, SemLoc.dma 20, SemLoc.dma 21, SemLoc.dma 22] : Fin 4 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 19) 0 ∗ semVal ((c : Thread nD τ), SemLoc.dma 20) 0
          ∗ semVal ((c : Thread nD τ), SemLoc.dma 21) 0 ∗ semVal ((c : Thread nD τ), SemLoc.dma 22) 0) := by
  rw [Pipeline.ownSems0_eq_of_list c osem [0, 1, 2, 3] (by decide) (by decide)]; rfl

/-- The one operand the kernel copies by itself. -/
def streamed : Finset (Ref sig .tc) := {main_v0}
theorem streamed_sub : streamed ⊆ Pipeline.restRefs sig spec0 := by decide
/-- The lines after the kernel do not touch it. -/
theorem sfx_but : ∀ ops ∈ ([hostOps1] : List (List (HloOp τ sig (Elt F)))), ∀ op ∈ ops,
    op.bufs ⊆ Pipeline.tailRefsBut sig Pipeline.Prefetch.none spec0 streamed := by
  intro ops hops op hop
  simp only [List.mem_cons, List.mem_nil_iff, or_false] at hops
  subst hops
  refine Pipeline.sub_tailRefsBut Pipeline.Prefetch.none spec0 streamed op ((List.forall_iff_forall_mem.mp hostOps1_sub) op hop) (fun j => j.elim0) ?_
  simp only [hostOps1, List.mem_cons, List.mem_nil_iff, or_false] at hop
  subst hop
  intro b hb
  simp only [streamed, Finset.mem_singleton] at hb
  subst hb
  simp only [StableHlo.reshape_bufs, Finset.mem_insert, Finset.mem_singleton, not_or]
  and_intros <;> exact StableHlo.devRef_ne_of_ne (by decide)
theorem streamed_eq (c : Dev nD) :
    (bigSep streamed (fun b => ((c : Thread nD τ).loc b) ↦{fullShare} V m c b) : sProp 𝕄) = iprop(held c hbM (V m c main_v0)) := by
  rw [BI.bigSep_eq_bigSepL_of_eq [main_v0] (by decide) (by decide)]; rfl

/-- What the launch hands the kernel besides its windows. -/
theorem handed_eq (c : Dev nD) :
    (Pipeline.ΦD osem spec0 streamed (V m) c : sProp 𝕄)
      = iprop(iprop((∃ d, owns (c : Thread nD τ) scM fullShare d) ∗ (∃ d, owns (c : Thread nD τ) fbM fullShare d))
          ∗ (∃ r, prngReg c r)
          ∗ iprop(semVal ((c : Thread nD τ), SemLoc.dma 19) 0 ∗ semVal ((c : Thread nD τ), SemLoc.dma 20) 0
              ∗ semVal ((c : Thread nD τ), SemLoc.dma 21) 0 ∗ semVal ((c : Thread nD τ), SemLoc.dma 22) 0)
          ∗ iprop(held c hbM (V m c main_v0))) := by
  rw [Pipeline.ΦD_eq, scopedRest0_eq, ownSems_eq, streamed_eq]; simp only [scM, fbM, owns_whole]; try rfl

/-! ## Slots, cells and rows -/

instance : NeZero grid0.N := ⟨by rw [N_0]; decide⟩

theorem inb_slot (s : Fin 4) : ∀ a, (![s.val, 0, 0] : Fin 3 → Nat) a + S1x257x3000.size a ≤ S4x257x3000.size a := by
  have := s.isLt; intro a; fin_cases a <;> simp <;> omega
theorem inb_src (b : Fin 64) : ∀ a, (![0, b.val, 0] : Fin 3 → Nat) a + S257x1x3000.size a ≤ S257x64x3000.size a := by
  have := b.isLt; intro a; fin_cases a <;> simp <;> omega
theorem inb_cell (s : Fin 4) : ∀ a, (![s.val] : Fin 1 → Nat) a + S1.size a ≤ S4.size a := by
  have := s.isLt; intro a; fin_cases a <;> simp <;> omega

/-- Slot `s` of the scratch buffer, row `b` of the operand, cell `s` of the semaphores, as the transfers spell them. -/
def rslot (s : Fin 4) : Memref sig .tc .vmem S257x3000 .f32 :=
  (scM.slice (Rect.unit (s := S4x257x3000) ![s.val, 0, 0] S1x257x3000.size (inb_slot s)) (fun _ => rfl)).squeeze S257x3000 squeezes_S1x257x3000_S257x3000
def srcB (b : Fin 64) : Memref sig .tc .hbm S257x3000 .f32 :=
  (hbM.slice (Rect.unit (s := S257x64x3000) ![0, b.val, 0] S257x1x3000.size (inb_src b)) (fun _ => rfl)).squeeze S257x3000 squeezes_S257x1x3000_S257x3000
def cellA (s : Fin 4) : DmaSems sig S_ :=
  (cc0_scratch2.slice (Rect.unit (s := S4) ![s.val] S1.size (inb_cell s))).squeeze S_ squeezes_S1_S_
abbrev cellR (s : Fin 4) : SemLoc sig := SemLoc.dma (cellA s).sem
theorem cellR_0 : cellR 0 = SemLoc.dma 19 := by decide
theorem cellR_1 : cellR 1 = SemLoc.dma 20 := by decide
theorem cellR_2 : cellR 2 = SemLoc.dma 21 := by decide
theorem cellR_3 : cellR 3 = SemLoc.dma 22 := by decide

/-- The slot and the row of part `r` of point `k`. -/
abbrev sI (k r : ℕ) : Fin 4 := Ring.sl 4 (2 * k + r)
abbrev bI (k r : ℕ) : Fin 64 := Ring.bk 64 (2 * k + r)
/-- Two points later the same slots come again. -/
theorem sI_add_two (k r : ℕ) : sI (k + 2) r = sI k r := by
  unfold sI; rw [show 2 * (k + 2) + r = (2 * k + r) + 4 by omega, Ring.sl_add]

section Pieces
variable (c : Dev nD) (W : MBuf (F := F) c hbM)
/-- The operand is lent by share, a quarter to each slot. -/
def qs (s : Fin 4) : PosShare TreeShare :=
  (![fullShare.left.left, fullShare.left.right, fullShare.right.left, fullShare.right.right] : Fin 4 → PosShare TreeShare) s
/-- Slot `s` held at `f`; cell `s` at zero; row `b` of slot `s`'s quarter; the rest of that quarter, and the quarter whole. -/
abbrev slotP (s : Fin 4) (f : MBuf (F := F) c (rslot s)) : sProp 𝕄 :=
  (rslot s).view.loc (c : Thread nD τ) ↦[(rslot s).view.set]{fullShare} f
abbrev cellP (s : Fin 4) : sProp 𝕄 := semVal ((c : Thread nD τ), cellR s) 0
abbrev srcP (s : Fin 4) (b : Fin 64) : sProp 𝕄 := (srcB b).view.loc (c : Thread nD τ) ↦[(srcB b).view.set]{qs s} W
def restP (s : Fin 4) (b : Fin 64) : sProp 𝕄 := ((c : Thread nD τ).loc main_v0) ↦[Finset.univ \ (srcB b).view.set]{qs s} W
abbrev quarterP (s : Fin 4) : sProp 𝕄 := ((c : Thread nD τ).loc main_v0) ↦[Finset.univ]{qs s} W
/-- Slot `s` once row `b` landed in it. -/
abbrev landed (s : Fin 4) (b : Fin 64) (f : MBuf (F := F) c (rslot s)) : MBuf (F := F) c (rslot s) :=
  (rslot s).view.writes (Elt F) f [⟨Rect.whole S257x3000, ReadAs.same.apply ((srcB b).view.read (Elt F) W)⟩]
/-- Row `b` on its way into slot `s`. -/
abbrev flightP (s : Fin 4) (b : Fin 64) (f : MBuf (F := F) c (rslot s)) : sProp 𝕄 :=
  Transfers.Flight countersEmb (c : Thread nD τ) (cellR s) default ((rslot s).view.amount (cellR s))
    iprop(slotP c s (landed c W s b f) ∗ srcP c W s b)
abbrev slotW (s : Fin 4) (f : MBuf (F := F) c (rslot s)) : sProp 𝕄 := iprop(slotP c s f ∗ quarterP c W s)
abbrev flightW (s : Fin 4) (b : Fin 64) (f : MBuf (F := F) c (rslot s)) : sProp 𝕄 := iprop(flightP c W s b f ∗ restP c W s b)
/-- The four slots before point `k`: all free before the first point and after the last; between them the two rows of
    point `k` in flight, and the other two slots free. -/
def slotsAt (k : ℕ) : sProp 𝕄 :=
  if k = 0 ∨ k = 32 then
    iprop(Ring.free (cellP c) (slotW c W) (sI k 0) ∗ Ring.free (cellP c) (slotW c W) (sI k 1)
      ∗ Ring.free (cellP c) (slotW c W) (sI (k + 1) 0) ∗ Ring.free (cellP c) (slotW c W) (sI (k + 1) 1))
  else
    iprop(Ring.inflight (flightW c W) (sI k 0) (bI k 0) ∗ Ring.inflight (flightW c W) (sI k 1) (bI k 1)
      ∗ Ring.free (cellP c) (slotW c W) (sI (k + 1) 0) ∗ Ring.free (cellP c) (slotW c W) (sI (k + 1) 1))

abbrev slotSet (s : Fin 4) : Finset S4x257x3000.Idx := (Rect.unit (s := S4x257x3000) ![s.val, 0, 0] S1x257x3000.size (inb_slot s)).set
omit [FloatOps F] in
theorem slotSet_eq (s : Fin 4) : (rslot s).view.set = slotSet s := by
  simp only [rslot, Memref.view_squeeze, View.set_reshape]; exact View.set_slice_whole _ _
omit [FloatOps F] in
theorem slots_disjoint (s s' : Fin 4) (h : s ≠ s') : Disjoint (slotSet s) (slotSet s') :=
  Ring.lead_disjoint (s := S4x257x3000) (0 : Fin 3) 1 (fun s : Fin 4 => (![s.val, 0, 0] : Fin 3 → Nat)) S1x257x3000.size inb_slot (fun s => by simp) rfl s s' h
omit [FloatOps F] in
theorem slots_cover : Finset.univ.biUnion slotSet = Finset.univ :=
  Ring.lead_cover (s := S4x257x3000) (0 : Fin 3) 1 (fun s : Fin 4 => (![s.val, 0, 0] : Fin 3 → Nat)) S1x257x3000.size inb_slot (fun s => by simp)
    (fun s a ha => by fin_cases a <;> first | exact absurd rfl ha | rfl) rfl (fun a ha => by fin_cases a <;> first | exact absurd rfl ha | rfl) rfl

theorem slotP_eq (s : Fin 4) (f) : slotP (F := F) c s f = (((c : Thread nD τ).loc cc0_scratch0) ↦[slotSet s]{fullShare} f : sProp 𝕄) := by
  unfold slotP; rw [slotSet_eq]; rfl
/-- A slot's quarter of the operand is any row and the rest. -/
theorem src_split (s : Fin 4) (b : Fin 64) : quarterP (F := F) c W s ⊣⊢ iprop(srcP c W s b ∗ restP c W s b) := by
  unfold restP; exact pointsTo_split_subset (Finset.subset_univ _)

/-- A buffer held whole at the contents of a vector is held at contents that read as that vector. -/
theorem unread_held {sp : Space} {S : Shape} {e : EltTy} (M : Memref sig .tc sp S e) (h : M.IsWhole) (x : S.Idx → Elt F e) :
    (M.view.loc (c : Thread nD τ) ↦[M.view.set]{fullShare} h.unread x : sProp 𝕄) ⊢ iprop(∃ f, ⌜M.view.read (Elt F) f = x⌝ ∗ M.view.loc (c : Thread nD τ) ↦[M.view.set]{fullShare} f) := by
  iintro H
  iexists _
  isplitr; · ipureintro; exact h.read_unread x
  iexact H

theorem of_eq {P Q : sProp 𝕄} (e : P = Q) : P ⊢ Q := e ▸ .rfl

theorem fin4_eq (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The operand whole is its four quarters. -/
theorem whole_split : (held c hbM W : sProp 𝕄) ⊣⊢ iprop((quarterP c W 0 ∗ quarterP c W 1) ∗ (quarterP c W 2 ∗ quarterP c W 3)) := by
  have h := pointsTo_share (Ix := Unit) (Val := Elt F) (Name := ℕ) (U := Pipeline.UD sig nD τ) (Lvl := ℕ) (ℓ := (c : Thread nD τ).loc main_v0) (I := Finset.univ) (f := W) (PosShare.mem_left_op_right fullShare)
  have hl := pointsTo_share (Ix := Unit) (Val := Elt F) (Name := ℕ) (U := Pipeline.UD sig nD τ) (Lvl := ℕ) (ℓ := (c : Thread nD τ).loc main_v0) (I := Finset.univ) (f := W) (PosShare.mem_left_op_right fullShare.left)
  have hr := pointsTo_share (Ix := Unit) (Val := Elt F) (Name := ℕ) (U := Pipeline.UD sig nD τ) (Lvl := ℕ) (ℓ := (c : Thread nD τ).loc main_v0) (I := Finset.univ) (f := W) (PosShare.mem_left_op_right fullShare.right)
  constructor
  · iintro H
    ihave H' := h.1 $$ H
    icases H' with ⟨HL, HR⟩
    isplitl [HL]
    · iapply hl.1; iexact HL
    · iapply hr.1; iexact HR
  · iintro ⟨HL, HR⟩
    iapply h.2
    isplitl [HL]
    · iapply hl.2; iexact HL
    · iapply hr.2; iexact HR

/-- The scratch buffer whole is its four slots, -/
theorem slots_in : iprop(∃ d, owns (c : Thread nD τ) scM fullShare d)
    ⊢ (iprop((∃ f, slotP (F := F) c 0 f) ∗ (∃ f, slotP (F := F) c 1 f) ∗ (∃ f, slotP (F := F) c 2 f) ∗ ∃ f, slotP (F := F) c 3 f) : sProp 𝕄) := by
  simp only [scM, owns_whole, slotP_eq]
  iintro ⟨%d, H⟩
  have h := (Ring.pointsTo_blocks (Ix := Unit) (Name := ℕ) (U := Pipeline.UD sig nD τ) (Lvl := ℕ) (ℓ := (c : Thread nD τ).loc cc0_scratch0) (q := fullShare) slotSet slots_disjoint slots_cover d).trans (fin4_eq (F := F) _)
  ihave H4 := (of_eq h) $$ H
  icases H4 with ⟨H0, H1, H2, H3⟩
  isplitl [H0]; · iexists d; iexact H0
  isplitl [H1]; · iexists d; iexact H1
  isplitl [H2]; · iexists d; iexact H2
  iexists d; iexact H3
/-- and back. -/
theorem slots_out : (iprop((∃ f, slotP (F := F) c 0 f) ∗ (∃ f, slotP (F := F) c 1 f) ∗ (∃ f, slotP (F := F) c 2 f) ∗ ∃ f, slotP (F := F) c 3 f) : sProp 𝕄)
    ⊢ iprop(∃ d, owns (c : Thread nD τ) scM fullShare d) := by
  simp only [scM, owns_whole, slotP_eq]
  iintro ⟨⟨%f0, H0⟩, ⟨%f1, H1⟩, ⟨%f2, H2⟩, ⟨%f3, H3⟩⟩
  iapply (Ring.pointsTo_blocks_join_exists (ℓ := (c : Thread nD τ).loc cc0_scratch0) slotSet slots_disjoint slots_cover f0)
  irw [fin4_eq]
  isplitl [H0]; · iexists f0; iexact H0
  isplitl [H1]; · iexists f1; iexact H1
  isplitl [H2]; · iexists f2; iexact H2
  iexists f3; iexact H3

/-- All four slots free are the launch's pieces: the scratch buffer, the cells at zero, the operand. -/
theorem free_iff :
    (iprop(Ring.free (cellP c) (slotW c W) 0 ∗ Ring.free (cellP c) (slotW c W) 1
      ∗ Ring.free (cellP c) (slotW c W) 2 ∗ Ring.free (cellP c) (slotW c W) 3) : sProp 𝕄)
    ⊣⊢ iprop((∃ d, owns (c : Thread nD τ) scM fullShare d)
      ∗ (semVal ((c : Thread nD τ), SemLoc.dma 19) 0 ∗ semVal ((c : Thread nD τ), SemLoc.dma 20) 0
          ∗ semVal ((c : Thread nD τ), SemLoc.dma 21) 0 ∗ semVal ((c : Thread nD τ), SemLoc.dma 22) 0) ∗ held c hbM W) := by
  simp only [Ring.free, cellP, cellR_0, cellR_1, cellR_2, cellR_3]
  constructor
  · iintro ⟨⟨C0, ⟨%f0, S0, Q0⟩⟩, ⟨C1, ⟨%f1, S1, Q1⟩⟩, ⟨C2, ⟨%f2, S2, Q2⟩⟩, ⟨C3, ⟨%f3, S3, Q3⟩⟩⟩
    isplitl [S0 S1 S2 S3]
    · iapply (slots_out (F := F) c)
      isplitl [S0]; · iexists f0; iexact S0
      isplitl [S1]; · iexists f1; iexact S1
      isplitl [S2]; · iexists f2; iexact S2
      iexists f3; iexact S3
    isplitl [C0 C1 C2 C3]
    · isplitl [C0]; · iexact C0
      isplitl [C1]; · iexact C1
      isplitl [C2]; · iexact C2
      iexact C3
    · iapply (whole_split (F := F) c W).2
      isplitl [Q0 Q1]
      · isplitl [Q0]; · iexact Q0
        iexact Q1
      · isplitl [Q2]; · iexact Q2
        iexact Q3
  · iintro ⟨HS, ⟨C0, C1, C2, C3⟩, HW⟩
    ihave HS' := (slots_in (F := F) c) $$ HS
    icases HS' with ⟨⟨%f0, S0⟩, ⟨%f1, S1⟩, ⟨%f2, S2⟩, ⟨%f3, S3⟩⟩
    ihave HW' := (whole_split (F := F) c W).1 $$ HW
    icases HW' with ⟨⟨Q0, Q1⟩, ⟨Q2, Q3⟩⟩
    isplitl [C0 S0 Q0]
    · isplitl [C0]; · iexact C0
      iexists f0; isplitl [S0]; · iexact S0
      iexact Q0
    isplitl [C1 S1 Q1]
    · isplitl [C1]; · iexact C1
      iexists f1; isplitl [S1]; · iexact S1
      iexact Q1
    isplitl [C2 S2 Q2]
    · isplitl [C2]; · iexact C2
      iexists f2; isplitl [S2]; · iexact S2
      iexact Q2
    · isplitl [C3]; · iexact C3
      iexists f3; isplitl [S3]; · iexact S3
      iexact Q3
theorem slotsAt_first : slotsAt (F := F) c W 0
    = iprop(Ring.free (cellP c) (slotW c W) 0 ∗ Ring.free (cellP c) (slotW c W) 1
      ∗ Ring.free (cellP c) (slotW c W) 2 ∗ Ring.free (cellP c) (slotW c W) 3) := rfl
theorem slotsAt_last : slotsAt (F := F) c W 32
    = iprop(Ring.free (cellP c) (slotW c W) 0 ∗ Ring.free (cellP c) (slotW c W) 1
      ∗ Ring.free (cellP c) (slotW c W) 2 ∗ Ring.free (cellP c) (slotW c W) 3) := rfl
end Pieces

/-! ## The two conditions of the body -/

abbrev first (i : grid0.Coords) : Prop := (Scalar.cmpi .ne (Scalar.extui (Scalar.cmpi .eq (BitVec.ofNat 32 (i 0).val) 0#32)) 0#32) = 1#1
abbrev more (i : grid0.Coords) : Prop := k0_cond2 i = 1#1
theorem coord_val (t : Fin grid0.N) : (grid0.coords t 0).val = t.val := by
  have ht : t.val < 32 := Nat.lt_of_lt_of_eq t.isLt N_0
  have e0 : (grid0.coords t 0).val = t.val / 1 % 32 := Pipeline.Grid.coords_val t 0 (by decide) rfl
  omega
theorem first_iff : ∀ t : Fin grid0.N, first (grid0.coords t) ↔ t.val = 0 := by decide +kernel
theorem more_iff : ∀ t : Fin grid0.N, more (grid0.coords t) ↔ t.val < 31 := by decide +kernel

/-! ## The body's operands are the slots, cells and rows -/

section Canon
variable (t : Fin grid0.N)

theorem slot_canon {off : Fin 3 → ℕ} (h : ∀ a, off a + S1x257x3000.size a ≤ S4x257x3000.size a) {s : Fin 4} (e : off = ![s.val, 0, 0]) :
    (scM.slice (Rect.unit (s := S4x257x3000) off S1x257x3000.size h) (fun _ => rfl)).squeeze S257x3000 squeezes_S1x257x3000_S257x3000 = rslot s := by
  subst e; rfl
theorem cell_canon {off : Fin 1 → ℕ} (h : ∀ a, off a + S1.size a ≤ S4.size a) {s : Fin 4} (e : off = ![s.val]) :
    (cc0_scratch2.slice (Rect.unit (s := S4) off S1.size h)).squeeze S_ squeezes_S1_S_ = cellA s := by
  subst e; rfl
theorem row_canon {off : Fin 3 → ℕ} (h : ∀ a, off a + S257x1x3000.size a ≤ S257x64x3000.size a) {b : Fin 64} (e : off = ![0, b.val, 0]) :
    (hbM.slice (Rect.unit (s := S257x64x3000) off S257x1x3000.size h) (fun _ => rfl)).squeeze S257x3000 squeezes_S257x1x3000_S257x3000 = srcB b := by
  subst e; rfl

theorem sI_val (k r : ℕ) (hr : r < 2) : (sI k r).val = 2 * (k % 2) + r := by
  show (2 * k + r) % 4 = _; omega
theorem bI_val (k r : ℕ) (hk : k < 32) (hr : r < 2) : (bI k r).val = 2 * k + r := by
  show (2 * k + r) % 64 = _; omega

theorem off1_eq (r : Fin 2) : k0_off1 (grid0.coords t) (BitVec.ofNat 32 r.val) = ![(sI (t.val + 1) r.val).val] := by
  rw [k0_off1_eq, coord_val, sI_val _ _ r.isLt]
theorem off2_eq (r : Fin 2) : k0_off2 (grid0.coords t) (BitVec.ofNat 32 r.val) = ![(sI (t.val + 1) r.val).val, 0, 0] := by
  rw [k0_off2_eq, coord_val, sI_val _ _ r.isLt]
theorem off3_eq (r : Fin 2) (h : more (grid0.coords t)) : k0_off3 (grid0.coords t) (BitVec.ofNat 32 r.val) = ![0, (bI (t.val + 1) r.val).val, 0] := by
  have h' := (more_iff t).mp h
  rw [k0_off3_eq, coord_val, bI_val _ _ (by omega) r.isLt, show 2 * t.val + r.val + 2 = 2 * (t.val + 1) + r.val by omega]
theorem off4_eq (r : Fin 2) : k0_off4 (grid0.coords t) (BitVec.ofNat 32 r.val) = ![(sI t.val r.val).val] := by
  rw [k0_off4_eq, coord_val, sI_val _ _ r.isLt]
theorem off5_eq (r : Fin 2) : k0_off5 (grid0.coords t) (BitVec.ofNat 32 r.val) = ![(sI t.val r.val).val, 0, 0] := by
  rw [k0_off5_eq, coord_val, sI_val _ _ r.isLt]
theorem off6_eq (r : Fin 2) : k0_off6 (grid0.coords t) (BitVec.ofNat 32 r.val) = ![0, (bI t.val r.val).val, 0] := by
  rw [k0_off6_eq, coord_val, bI_val _ _ (Nat.lt_of_lt_of_eq t.isLt N_0) r.isLt]
theorem off7_eq (r : Fin 2) : k0_off7 (grid0.coords t) (BitVec.ofNat 32 r.val) = ![(sI t.val r.val).val, 0, 0] := by
  rw [k0_off7_eq, coord_val, sI_val _ _ r.isLt]

@[sl_canon] theorem start_cell0 (h : more (grid0.coords t)) :
    (cc0_scratch2.slice (Rect.unit (s := S4) (k0_off1 (grid0.coords t) 0#32) S1.size (k0_off1_inb (grid0.coords t) h 0))).squeeze S_ squeezes_S1_S_ = cellA (sI (t.val + 1) 0) :=
  cell_canon _ (off1_eq t 0)
@[sl_canon] theorem start_cell1 (h : more (grid0.coords t)) :
    (cc0_scratch2.slice (Rect.unit (s := S4) (k0_off1 (grid0.coords t) 1#32) S1.size (k0_off1_inb (grid0.coords t) h 1))).squeeze S_ squeezes_S1_S_ = cellA (sI (t.val + 1) 1) :=
  cell_canon _ (off1_eq t 1)
@[sl_canon] theorem start_slot0 (h : more (grid0.coords t)) :
    (scM.slice (Rect.unit (s := S4x257x3000) (k0_off2 (grid0.coords t) 0#32) S1x257x3000.size (k0_off2_inb (grid0.coords t) h 0)) (fun _ => rfl)).squeeze S257x3000 squeezes_S1x257x3000_S257x3000 = rslot (sI (t.val + 1) 0) :=
  slot_canon _ (off2_eq t 0)
@[sl_canon] theorem start_slot1 (h : more (grid0.coords t)) :
    (scM.slice (Rect.unit (s := S4x257x3000) (k0_off2 (grid0.coords t) 1#32) S1x257x3000.size (k0_off2_inb (grid0.coords t) h 1)) (fun _ => rfl)).squeeze S257x3000 squeezes_S1x257x3000_S257x3000 = rslot (sI (t.val + 1) 1) :=
  slot_canon _ (off2_eq t 1)
@[sl_canon] theorem start_row0 (h : more (grid0.coords t)) :
    (hbM.slice (Rect.unit (s := S257x64x3000) (k0_off3 (grid0.coords t) 0#32) S257x1x3000.size (k0_off3_inb (grid0.coords t) h 0)) (fun _ => rfl)).squeeze S257x3000 squeezes_S257x1x3000_S257x3000 = srcB (bI (t.val + 1) 0) :=
  row_canon _ (off3_eq t 0 h)
@[sl_canon] theorem start_row1 (h : more (grid0.coords t)) :
    (hbM.slice (Rect.unit (s := S257x64x3000) (k0_off3 (grid0.coords t) 1#32) S257x1x3000.size (k0_off3_inb (grid0.coords t) h 1)) (fun _ => rfl)).squeeze S257x3000 squeezes_S257x1x3000_S257x3000 = srcB (bI (t.val + 1) 1) :=
  row_canon _ (off3_eq t 1 h)
@[sl_canon] theorem wait_cell0 :
    (cc0_scratch2.slice (Rect.unit (s := S4) (k0_off4 (grid0.coords t) 0#32) S1.size (k0_off4_inb (grid0.coords t) 0))).squeeze S_ squeezes_S1_S_ = cellA (sI t.val 0) :=
  cell_canon _ (off4_eq t 0)
@[sl_canon] theorem wait_cell1 :
    (cc0_scratch2.slice (Rect.unit (s := S4) (k0_off4 (grid0.coords t) 1#32) S1.size (k0_off4_inb (grid0.coords t) 1))).squeeze S_ squeezes_S1_S_ = cellA (sI t.val 1) :=
  cell_canon _ (off4_eq t 1)
@[sl_canon] theorem wait_slot0 :
    (scM.slice (Rect.unit (s := S4x257x3000) (k0_off5 (grid0.coords t) 0#32) S1x257x3000.size (k0_off5_inb (grid0.coords t) 0)) (fun _ => rfl)).squeeze S257x3000 squeezes_S1x257x3000_S257x3000 = rslot (sI t.val 0) :=
  slot_canon _ (off5_eq t 0)
@[sl_canon] theorem wait_slot1 :
    (scM.slice (Rect.unit (s := S4x257x3000) (k0_off5 (grid0.coords t) 1#32) S1x257x3000.size (k0_off5_inb (grid0.coords t) 1)) (fun _ => rfl)).squeeze S257x3000 squeezes_S1x257x3000_S257x3000 = rslot (sI t.val 1) :=
  slot_canon _ (off5_eq t 1)
@[sl_canon] theorem wait_row0 :
    (hbM.slice (Rect.unit (s := S257x64x3000) (k0_off6 (grid0.coords t) 0#32) S257x1x3000.size (k0_off6_inb (grid0.coords t) 0)) (fun _ => rfl)).squeeze S257x3000 squeezes_S257x1x3000_S257x3000 = srcB (bI t.val 0) :=
  row_canon _ (off6_eq t 0)
@[sl_canon] theorem wait_row1 :
    (hbM.slice (Rect.unit (s := S257x64x3000) (k0_off6 (grid0.coords t) 1#32) S257x1x3000.size (k0_off6_inb (grid0.coords t) 1)) (fun _ => rfl)).squeeze S257x3000 squeezes_S257x1x3000_S257x3000 = srcB (bI t.val 1) :=
  row_canon _ (off6_eq t 1)

/-- The first point starts its own two rows at literal places. -/
theorem lit_cell0 (h : t.val = 0) : (cc0_scratch2.slice (Rect.unit (s := S4) ![0] S1.size inb_S4_S1_0)).squeeze S_ squeezes_S1_S_ = cellA (sI t.val 0) :=
  cell_canon _ (by rw [h]; rfl)
theorem lit_cell1 (h : t.val = 0) : (cc0_scratch2.slice (Rect.unit (s := S4) ![1] S1.size inb_S4_S1_1)).squeeze S_ squeezes_S1_S_ = cellA (sI t.val 1) :=
  cell_canon _ (by rw [h]; rfl)
theorem lit_slot0 (h : t.val = 0) :
    (scM.slice (Rect.unit (s := S4x257x3000) ![0, 0, 0] S1x257x3000.size inb_S4x257x3000_S1x257x3000_0_0_0) (fun _ => rfl)).squeeze S257x3000 squeezes_S1x257x3000_S257x3000 = rslot (sI t.val 0) :=
  slot_canon _ (by rw [h]; rfl)
theorem lit_slot1 (h : t.val = 0) :
    (scM.slice (Rect.unit (s := S4x257x3000) ![1, 0, 0] S1x257x3000.size inb_S4x257x3000_S1x257x3000_1_0_0) (fun _ => rfl)).squeeze S257x3000 squeezes_S1x257x3000_S257x3000 = rslot (sI t.val 1) :=
  slot_canon _ (by rw [h]; rfl)
theorem lit_row0 (h : t.val = 0) :
    (hbM.slice (Rect.unit (s := S257x64x3000) ![0, 0, 0] S257x1x3000.size inb_S257x64x3000_S257x1x3000_0_0_0) (fun _ => rfl)).squeeze S257x3000 squeezes_S257x1x3000_S257x3000 = srcB (bI t.val 0) :=
  row_canon _ (by rw [h]; rfl)
theorem lit_row1 (h : t.val = 0) :
    (hbM.slice (Rect.unit (s := S257x64x3000) ![0, 1, 0] S257x1x3000.size inb_S257x64x3000_S257x1x3000_0_1_0) (fun _ => rfl)).squeeze S257x3000 squeezes_S257x1x3000_S257x3000 = srcB (bI t.val 1) :=
  row_canon _ (by rw [h]; rfl)

instance (priority := high) slot_load0 : ClosedOff (k0_off7 (grid0.coords t) 0#32) := ⟨![(sI t.val 0).val, 0, 0], off7_eq t 0⟩
instance (priority := high) slot_load1 : ClosedOff (k0_off7 (grid0.coords t) 1#32) := ⟨![(sI t.val 1).val, 0, 0], off7_eq t 1⟩
end Canon

end Cert.KernelIdeal.Hand

end
-- ==== Proof.KernelIdeal.RunA.lean ====
module

public import proofs.«01_k».proof.Proof.KernelIdeal.Ring

/-! # The body run at the first point: its own two rows and the next two are started, the filterbank is built, its own two rows are waited for. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The body at the first point: its own two rows and the next two are started, the filterbank is built, its own two rows are waited for. The pieces of the output block and of the filterbank it writes are found by the run. -/
def runA (c : Dev nD) (t : Fin cfg0.N) (arg2 : Memref sig .tc .vmem S80x8 .f32) (harg2 : arg2.IsWhole) (arg3 : Memref sig .tc .vmem S64x80 .bf16) (harg3 : arg3.IsWhole) (arg4 : Memref sig .tc .vmem S64x1 .f32) (harg4 : arg4.IsWhole) (arg5 : Memref sig .tc .vmem S128x192 .bf16) (harg5 : arg5.IsWhole) (arg6 : Memref sig .tc .vmem S128x1 .f32) (harg6 : arg6.IsWhole) (arg7 : Memref sig .tc .vmem S128x384 .bf16) (harg7 : arg7.IsWhole) (arg8 : Memref sig .tc .vmem S128x1 .f32) (harg8 : arg8.IsWhole) (arg9 : Memref sig .tc .vmem S128x384 .bf16) (harg9 : arg9.IsWhole) (arg10 : Memref sig .tc .vmem S128x1 .f32) (harg10 : arg10.IsWhole) (arg11 : Memref sig .tc .vmem S64x128 .bf16) (harg11 : arg11.IsWhole) (arg12 : Memref sig .tc .vmem S64x1 .f32) (harg12 : arg12.IsWhole) (arg13 : Memref sig .tc .vmem S128x64 .bf16) (harg13 : arg13.IsWhole) (arg14 : Memref sig .tc .vmem S128x1 .f32) (harg14 : arg14.IsWhole) (arg15 : Memref sig .tc .vmem S256x1 .f32) (harg15 : arg15.IsWhole) (arg16 : Memref sig .tc .vmem S256x1 .f32) (harg16 : arg16.IsWhole) (arg17 : Memref sig .tc .vmem S256x512 .bf16) (harg17 : arg17.IsWhole) (arg18 : Memref sig .tc .vmem S1x512 .f32) (harg18 : arg18.IsWhole) (arg19 : Memref sig .tc .vmem S1x2x512 .f32) (harg19 : arg19.IsWhole)
    (hc0 : first (grid0.coords t)) (hc1 : more (grid0.coords t))
    (x0 : Vec F S80x8 .f32) (x1 : Vec F S64x80 .bf16) (x2 : Vec F S64x1 .f32) (x3 : Vec F S128x192 .bf16) (x4 : Vec F S128x1 .f32) (x5 : Vec F S128x384 .bf16) (x6 : Vec F S128x1 .f32) (x7 : Vec F S128x384 .bf16) (x8 : Vec F S128x1 .f32) (x9 : Vec F S64x128 .bf16) (x10 : Vec F S64x1 .f32) (x11 : Vec F S128x64 .bf16) (x12 : Vec F S128x1 .f32) (x13 : Vec F S256x1 .f32) (x14 : Vec F S256x1 .f32) (x15 : Vec F S256x512 .bf16) (x16 : Vec F S1x512 .f32) (W : MBuf (F := F) c hbM) :
    { L : List (View.Piece (Elt F) S1x2x512 .f32) × List (View.Piece (Elt F) S80x256 .bf16) //
      ∀ (O : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) fbM fullShare d)
            ∗ Ring.free (cellP c) (slotW c W) (sI t.val 0) ∗ Ring.free (cellP c) (slotW c W) (sI t.val 1) ∗ Ring.free (cellP c) (slotW c W) (sI (t.val + 1) 0) ∗ Ring.free (cellP c) (slotW c W) (sI (t.val + 1) 1) ∗ owes (c : Thread nD τ) 0 O
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16
                ∗ (∃ f, arg19.view.loc (c : Thread nD τ) ↦[arg19.view.set]{fullShare} arg19.view.writes (Elt F) f L.1) ∗ (∃ f, fbM.view.loc (c : Thread nD τ) ↦[fbM.view.set]{fullShare} fbM.view.writes (Elt F) f L.2)
                ∗ Ring.inflight (flightW c W) (sI (t.val + 1) 0) (bI (t.val + 1) 0) ∗ Ring.inflight (flightW c W) (sI (t.val + 1) 1) (bI (t.val + 1) 1) ∗ Ring.free (cellP c) (slotW c W) (sI t.val 0) ∗ Ring.free (cellP c) (slotW c W) (sI t.val 1) ∗ (∃ O', owes (c : Thread nD τ) 0 O')) -∗ K ⟨⟩))
          ⊢ wp frame (wpE (defs₀ (F := F)) Variants.none c none) Set.univ (cc0__body (grid0.coords t) (Memref.whole main_v0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 scM (Memref.isWhole_whole _) fbM (Memref.isWhole_whole _) cc0_scratch2) K } := by
  refine ⟨(?_, ?_), fun O K => ?run⟩
  case run =>
    haveI : Fact (first (grid0.coords t)) := ⟨hc0⟩
    haveI : Fact (more (grid0.coords t)) := ⟨hc1⟩
    simp only [cc0__body_eq_skeleton]
    unfold cc0__body_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold k0_part2_skel
    simp only [k0_part1_eq_skeleton]
    have ht : t.val = 0 := (first_iff t).mp hc0
    have hcanon_slot0 := lit_slot0 t ht
    have hcanon_cell0 := lit_cell0 t ht
    have hcanon_row0 := lit_row0 t ht
    have hcanon_slot1 := lit_slot1 t ht
    have hcanon_cell1 := lit_cell1 t ht
    have hcanon_row1 := lit_row1 t ht
    have hcanon_start_slot0 := start_slot0 t hc1; have hcanon_start_slot1 := start_slot1 t hc1
    have hcanon_wait_slot0 := wait_slot0 t; have hcanon_wait_slot1 := wait_slot1 t
    have hcanon_start_cell0 := start_cell0 t hc1; have hcanon_start_cell1 := start_cell1 t hc1
    have hcanon_wait_cell0 := wait_cell0 t; have hcanon_wait_cell1 := wait_cell1 t
    have hcanon_start_row0 := start_row0 t hc1; have hcanon_start_row1 := start_row1 t hc1
    have hcanon_wait_row0 := wait_row0 t; have hcanon_wait_row1 := wait_row1 t
    unfold owns Ring.free
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%db, %fb, -, Hb⟩, ⟨C0, ⟨%s0, S0, Q0⟩⟩, ⟨C1, ⟨%s1, S1, Q1⟩⟩, ⟨C2, ⟨%s2, S2, Q2⟩⟩, ⟨C3, ⟨%s3, S3, Q3⟩⟩, HO, Hk⟩
    ihave Q0 := (src_split c W (sI t.val 0) (bI t.val 0)).1 $$ Q0
    icases Q0 with ⟨P0, R0⟩
    ihave Q1 := (src_split c W (sI t.val 1) (bI t.val 1)).1 $$ Q1
    icases Q1 with ⟨P1, R1⟩
    ihave Q2 := (src_split c W (sI (t.val + 1) 0) (bI (t.val + 1) 0)).1 $$ Q2
    icases Q2 with ⟨P2, R2⟩
    ihave Q3 := (src_split c W (sI (t.val + 1) 1) (bI (t.val + 1) 1)).1 $$ Q3
    icases Q3 with ⟨P3, R3⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec (disch := first | sl_exact hc0 | sl_exact hc1)
    sl_step
    iapply Hk
    isplitl [H0]; · iapply (unread_held c arg2 harg2 x0); iexact H0
    isplitl [H1]; · iapply (unread_held c arg3 harg3 x1); iexact H1
    isplitl [H2]; · iapply (unread_held c arg4 harg4 x2); iexact H2
    isplitl [H3]; · iapply (unread_held c arg5 harg5 x3); iexact H3
    isplitl [H4]; · iapply (unread_held c arg6 harg6 x4); iexact H4
    isplitl [H5]; · iapply (unread_held c arg7 harg7 x5); iexact H5
    isplitl [H6]; · iapply (unread_held c arg8 harg8 x6); iexact H6
    isplitl [H7]; · iapply (unread_held c arg9 harg9 x7); iexact H7
    isplitl [H8]; · iapply (unread_held c arg10 harg10 x8); iexact H8
    isplitl [H9]; · iapply (unread_held c arg11 harg11 x9); iexact H9
    isplitl [H10]; · iapply (unread_held c arg12 harg12 x10); iexact H10
    isplitl [H11]; · iapply (unread_held c arg13 harg13 x11); iexact H11
    isplitl [H12]; · iapply (unread_held c arg14 harg14 x12); iexact H12
    isplitl [H13]; · iapply (unread_held c arg15 harg15 x13); iexact H13
    isplitl [H14]; · iapply (unread_held c arg16 harg16 x14); iexact H14
    isplitl [H15]; · iapply (unread_held c arg17 harg17 x15); iexact H15
    isplitl [H16]; · iapply (unread_held c arg18 harg18 x16); iexact H16
    isplitl [H17]; · iexists _; iexact H17
    isplitl [Hb]; · iexists _; iexact Hb
    isplitl [C2 R2]
    · iexists _; isplitr [R2]; · iexact C2
      iexact R2
    isplitl [C3 R3]
    · iexists _; isplitr [R3]; · iexact C3
      iexact R3
    isplitl [C0 S0 P0 R0]
    · isplitl [C0]; · iexact C0
      iexists _; isplitl [S0]; · iexact S0
      iapply (src_split c W (sI t.val 0) (bI t.val 0)).2; isplitl [P0]; · iexact P0
      iexact R0
    isplitl [C1 S1 P1 R1]
    · isplitl [C1]; · iexact C1
      iexists _; isplitl [S1]; · iexact S1
      iapply (src_split c W (sI t.val 1) (bI t.val 1)).2; isplitl [P1]; · iexact P1
      iexact R1
    iexists _; iexact HO

end Cert.KernelIdeal.Hand

end
-- ==== Proof.KernelIdeal.RunB.lean ====
module

public import proofs.«01_k».proof.Proof.KernelIdeal.RunA

/-! # The body run at a point between the first and the last: the next two rows are started, its own two waited for. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The body at a point between the first and the last: the next two rows are started, its own two waited for. The pieces of the output block it writes are found by the run. -/
def runB (c : Dev nD) (t : Fin cfg0.N) (arg2 : Memref sig .tc .vmem S80x8 .f32) (harg2 : arg2.IsWhole) (arg3 : Memref sig .tc .vmem S64x80 .bf16) (harg3 : arg3.IsWhole) (arg4 : Memref sig .tc .vmem S64x1 .f32) (harg4 : arg4.IsWhole) (arg5 : Memref sig .tc .vmem S128x192 .bf16) (harg5 : arg5.IsWhole) (arg6 : Memref sig .tc .vmem S128x1 .f32) (harg6 : arg6.IsWhole) (arg7 : Memref sig .tc .vmem S128x384 .bf16) (harg7 : arg7.IsWhole) (arg8 : Memref sig .tc .vmem S128x1 .f32) (harg8 : arg8.IsWhole) (arg9 : Memref sig .tc .vmem S128x384 .bf16) (harg9 : arg9.IsWhole) (arg10 : Memref sig .tc .vmem S128x1 .f32) (harg10 : arg10.IsWhole) (arg11 : Memref sig .tc .vmem S64x128 .bf16) (harg11 : arg11.IsWhole) (arg12 : Memref sig .tc .vmem S64x1 .f32) (harg12 : arg12.IsWhole) (arg13 : Memref sig .tc .vmem S128x64 .bf16) (harg13 : arg13.IsWhole) (arg14 : Memref sig .tc .vmem S128x1 .f32) (harg14 : arg14.IsWhole) (arg15 : Memref sig .tc .vmem S256x1 .f32) (harg15 : arg15.IsWhole) (arg16 : Memref sig .tc .vmem S256x1 .f32) (harg16 : arg16.IsWhole) (arg17 : Memref sig .tc .vmem S256x512 .bf16) (harg17 : arg17.IsWhole) (arg18 : Memref sig .tc .vmem S1x512 .f32) (harg18 : arg18.IsWhole) (arg19 : Memref sig .tc .vmem S1x2x512 .f32) (harg19 : arg19.IsWhole)
    (hc0 : ¬first (grid0.coords t)) (hc1 : more (grid0.coords t))
    (x0 : Vec F S80x8 .f32) (x1 : Vec F S64x80 .bf16) (x2 : Vec F S64x1 .f32) (x3 : Vec F S128x192 .bf16) (x4 : Vec F S128x1 .f32) (x5 : Vec F S128x384 .bf16) (x6 : Vec F S128x1 .f32) (x7 : Vec F S128x384 .bf16) (x8 : Vec F S128x1 .f32) (x9 : Vec F S64x128 .bf16) (x10 : Vec F S64x1 .f32) (x11 : Vec F S128x64 .bf16) (x12 : Vec F S128x1 .f32) (x13 : Vec F S256x1 .f32) (x14 : Vec F S256x1 .f32) (x15 : Vec F S256x512 .bf16) (x16 : Vec F S1x512 .f32) (xb : Vec F S80x256 .bf16) (W : MBuf (F := F) c hbM) :
    { L : List (View.Piece (Elt F) S1x2x512 .f32) //
      ∀ (O : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ owns (c : Thread nD τ) fbM fullShare xb
            ∗ Ring.inflight (flightW c W) (sI t.val 0) (bI t.val 0) ∗ Ring.inflight (flightW c W) (sI t.val 1) (bI t.val 1) ∗ Ring.free (cellP c) (slotW c W) (sI (t.val + 1) 0) ∗ Ring.free (cellP c) (slotW c W) (sI (t.val + 1) 1) ∗ owes (c : Thread nD τ) 0 O
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16
                ∗ (∃ f, arg19.view.loc (c : Thread nD τ) ↦[arg19.view.set]{fullShare} arg19.view.writes (Elt F) f L) ∗ owns (c : Thread nD τ) fbM fullShare xb
                ∗ Ring.inflight (flightW c W) (sI (t.val + 1) 0) (bI (t.val + 1) 0) ∗ Ring.inflight (flightW c W) (sI (t.val + 1) 1) (bI (t.val + 1) 1) ∗ Ring.free (cellP c) (slotW c W) (sI t.val 0) ∗ Ring.free (cellP c) (slotW c W) (sI t.val 1) ∗ (∃ O', owes (c : Thread nD τ) 0 O')) -∗ K ⟨⟩))
          ⊢ wp frame (wpE (defs₀ (F := F)) Variants.none c none) Set.univ (cc0__body (grid0.coords t) (Memref.whole main_v0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 scM (Memref.isWhole_whole _) fbM (Memref.isWhole_whole _) cc0_scratch2) K } := by
  refine ⟨?_, fun O K => ?run⟩
  case run =>
    haveI : Fact (¬first (grid0.coords t)) := ⟨hc0⟩
    haveI : Fact (more (grid0.coords t)) := ⟨hc1⟩
    simp only [cc0__body_eq_skeleton]
    unfold cc0__body_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold k0_part2_skel
    simp only [k0_part1_eq_skeleton]
    have hcanon_start_slot0 := start_slot0 t hc1; have hcanon_start_slot1 := start_slot1 t hc1
    have hcanon_wait_slot0 := wait_slot0 t; have hcanon_wait_slot1 := wait_slot1 t
    have hcanon_start_cell0 := start_cell0 t hc1; have hcanon_start_cell1 := start_cell1 t hc1
    have hcanon_wait_cell0 := wait_cell0 t; have hcanon_wait_cell1 := wait_cell1 t
    have hcanon_start_row0 := start_row0 t hc1; have hcanon_start_row1 := start_row1 t hc1
    have hcanon_wait_row0 := wait_row0 t; have hcanon_wait_row1 := wait_row1 t
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%fb, %hfb, Hb⟩, ⟨%s0, F0, R0⟩, ⟨%s1, F1, R1⟩, ⟨C2, ⟨%s2, S2, Q2⟩⟩, ⟨C3, ⟨%s3, S3, Q3⟩⟩, HO, Hk⟩
    ihave Q2 := (src_split c W (sI (t.val + 1) 0) (bI (t.val + 1) 0)).1 $$ Q2
    icases Q2 with ⟨P2, R2⟩
    ihave Q3 := (src_split c W (sI (t.val + 1) 1) (bI (t.val + 1) 1)).1 $$ Q3
    icases Q3 with ⟨P3, R3⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := (Memref.isWhole_whole _).eq_unread hfb
    sl_exec (disch := first | sl_exact hc0 | sl_exact hc1)
    sl_step
    iapply Hk
    isplitl [H0]; · iapply (unread_held c arg2 harg2 x0); iexact H0
    isplitl [H1]; · iapply (unread_held c arg3 harg3 x1); iexact H1
    isplitl [H2]; · iapply (unread_held c arg4 harg4 x2); iexact H2
    isplitl [H3]; · iapply (unread_held c arg5 harg5 x3); iexact H3
    isplitl [H4]; · iapply (unread_held c arg6 harg6 x4); iexact H4
    isplitl [H5]; · iapply (unread_held c arg7 harg7 x5); iexact H5
    isplitl [H6]; · iapply (unread_held c arg8 harg8 x6); iexact H6
    isplitl [H7]; · iapply (unread_held c arg9 harg9 x7); iexact H7
    isplitl [H8]; · iapply (unread_held c arg10 harg10 x8); iexact H8
    isplitl [H9]; · iapply (unread_held c arg11 harg11 x9); iexact H9
    isplitl [H10]; · iapply (unread_held c arg12 harg12 x10); iexact H10
    isplitl [H11]; · iapply (unread_held c arg13 harg13 x11); iexact H11
    isplitl [H12]; · iapply (unread_held c arg14 harg14 x12); iexact H12
    isplitl [H13]; · iapply (unread_held c arg15 harg15 x13); iexact H13
    isplitl [H14]; · iapply (unread_held c arg16 harg16 x14); iexact H14
    isplitl [H15]; · iapply (unread_held c arg17 harg17 x15); iexact H15
    isplitl [H16]; · iapply (unread_held c arg18 harg18 x16); iexact H16
    isplitl [H17]; · iexists _; iexact H17
    isplitl [Hb]; · iapply (unread_held c fbM (Memref.isWhole_whole _) xb); iexact Hb
    isplitl [C2 R2]
    · iexists _; isplitr [R2]; · iexact C2
      iexact R2
    isplitl [C3 R3]
    · iexists _; isplitr [R3]; · iexact C3
      iexact R3
    isplitl [F0 F0_dst F0_src R0]
    · isplitl [F0]; · iexact F0
      iexists _; isplitl [F0_dst]; · iexact F0_dst
      iapply (src_split c W (sI t.val 0) (bI t.val 0)).2; isplitl [F0_src]; · iexact F0_src
      iexact R0
    isplitl [F1 F1_dst F1_src R1]
    · isplitl [F1]; · iexact F1
      iexists _; isplitl [F1_dst]; · iexact F1_dst
      iapply (src_split c W (sI t.val 1) (bI t.val 1)).2; isplitl [F1_src]; · iexact F1_src
      iexact R1
    iexists _; iexact HO

end Cert.KernelIdeal.Hand

end
-- ==== Proof.KernelIdeal.RunC.lean ====
module

public import proofs.«01_k».proof.Proof.KernelIdeal.RunB

/-! # The body run at the last point: its own two rows are waited for. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The body at the last point: its own two rows are waited for. The pieces of the output block it writes are found by the run. -/
def runC (c : Dev nD) (t : Fin cfg0.N) (arg2 : Memref sig .tc .vmem S80x8 .f32) (harg2 : arg2.IsWhole) (arg3 : Memref sig .tc .vmem S64x80 .bf16) (harg3 : arg3.IsWhole) (arg4 : Memref sig .tc .vmem S64x1 .f32) (harg4 : arg4.IsWhole) (arg5 : Memref sig .tc .vmem S128x192 .bf16) (harg5 : arg5.IsWhole) (arg6 : Memref sig .tc .vmem S128x1 .f32) (harg6 : arg6.IsWhole) (arg7 : Memref sig .tc .vmem S128x384 .bf16) (harg7 : arg7.IsWhole) (arg8 : Memref sig .tc .vmem S128x1 .f32) (harg8 : arg8.IsWhole) (arg9 : Memref sig .tc .vmem S128x384 .bf16) (harg9 : arg9.IsWhole) (arg10 : Memref sig .tc .vmem S128x1 .f32) (harg10 : arg10.IsWhole) (arg11 : Memref sig .tc .vmem S64x128 .bf16) (harg11 : arg11.IsWhole) (arg12 : Memref sig .tc .vmem S64x1 .f32) (harg12 : arg12.IsWhole) (arg13 : Memref sig .tc .vmem S128x64 .bf16) (harg13 : arg13.IsWhole) (arg14 : Memref sig .tc .vmem S128x1 .f32) (harg14 : arg14.IsWhole) (arg15 : Memref sig .tc .vmem S256x1 .f32) (harg15 : arg15.IsWhole) (arg16 : Memref sig .tc .vmem S256x1 .f32) (harg16 : arg16.IsWhole) (arg17 : Memref sig .tc .vmem S256x512 .bf16) (harg17 : arg17.IsWhole) (arg18 : Memref sig .tc .vmem S1x512 .f32) (harg18 : arg18.IsWhole) (arg19 : Memref sig .tc .vmem S1x2x512 .f32) (harg19 : arg19.IsWhole)
    (hc0 : ¬first (grid0.coords t)) (hc1 : ¬more (grid0.coords t))
    (x0 : Vec F S80x8 .f32) (x1 : Vec F S64x80 .bf16) (x2 : Vec F S64x1 .f32) (x3 : Vec F S128x192 .bf16) (x4 : Vec F S128x1 .f32) (x5 : Vec F S128x384 .bf16) (x6 : Vec F S128x1 .f32) (x7 : Vec F S128x384 .bf16) (x8 : Vec F S128x1 .f32) (x9 : Vec F S64x128 .bf16) (x10 : Vec F S64x1 .f32) (x11 : Vec F S128x64 .bf16) (x12 : Vec F S128x1 .f32) (x13 : Vec F S256x1 .f32) (x14 : Vec F S256x1 .f32) (x15 : Vec F S256x512 .bf16) (x16 : Vec F S1x512 .f32) (xb : Vec F S80x256 .bf16) (W : MBuf (F := F) c hbM) :
    { L : List (View.Piece (Elt F) S1x2x512 .f32) //
      ∀ (O : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ owns (c : Thread nD τ) fbM fullShare xb
            ∗ Ring.inflight (flightW c W) (sI t.val 0) (bI t.val 0) ∗ Ring.inflight (flightW c W) (sI t.val 1) (bI t.val 1) ∗ owes (c : Thread nD τ) 0 O
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16
                ∗ (∃ f, arg19.view.loc (c : Thread nD τ) ↦[arg19.view.set]{fullShare} arg19.view.writes (Elt F) f L) ∗ owns (c : Thread nD τ) fbM fullShare xb
                ∗ Ring.free (cellP c) (slotW c W) (sI t.val 0) ∗ Ring.free (cellP c) (slotW c W) (sI t.val 1) ∗ (∃ O', owes (c : Thread nD τ) 0 O')) -∗ K ⟨⟩))
          ⊢ wp frame (wpE (defs₀ (F := F)) Variants.none c none) Set.univ (cc0__body (grid0.coords t) (Memref.whole main_v0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 scM (Memref.isWhole_whole _) fbM (Memref.isWhole_whole _) cc0_scratch2) K } := by
  refine ⟨?_, fun O K => ?run⟩
  case run =>
    haveI : Fact (¬first (grid0.coords t)) := ⟨hc0⟩
    haveI : Fact (¬more (grid0.coords t)) := ⟨hc1⟩
    simp only [cc0__body_eq_skeleton]
    unfold cc0__body_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold k0_part2_skel
    simp only [k0_part1_eq_skeleton]
    have hcanon_wait_slot0 := wait_slot0 t; have hcanon_wait_slot1 := wait_slot1 t
    have hcanon_wait_cell0 := wait_cell0 t; have hcanon_wait_cell1 := wait_cell1 t
    have hcanon_wait_row0 := wait_row0 t; have hcanon_wait_row1 := wait_row1 t
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%fb, %hfb, Hb⟩, ⟨%s0, F0, R0⟩, ⟨%s1, F1, R1⟩, HO, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := (Memref.isWhole_whole _).eq_unread hfb
    sl_exec (disch := first | sl_exact hc0 | sl_exact hc1)
    sl_step
    iapply Hk
    isplitl [H0]; · iapply (unread_held c arg2 harg2 x0); iexact H0
    isplitl [H1]; · iapply (unread_held c arg3 harg3 x1); iexact H1
    isplitl [H2]; · iapply (unread_held c arg4 harg4 x2); iexact H2
    isplitl [H3]; · iapply (unread_held c arg5 harg5 x3); iexact H3
    isplitl [H4]; · iapply (unread_held c arg6 harg6 x4); iexact H4
    isplitl [H5]; · iapply (unread_held c arg7 harg7 x5); iexact H5
    isplitl [H6]; · iapply (unread_held c arg8 harg8 x6); iexact H6
    isplitl [H7]; · iapply (unread_held c arg9 harg9 x7); iexact H7
    isplitl [H8]; · iapply (unread_held c arg10 harg10 x8); iexact H8
    isplitl [H9]; · iapply (unread_held c arg11 harg11 x9); iexact H9
    isplitl [H10]; · iapply (unread_held c arg12 harg12 x10); iexact H10
    isplitl [H11]; · iapply (unread_held c arg13 harg13 x11); iexact H11
    isplitl [H12]; · iapply (unread_held c arg14 harg14 x12); iexact H12
    isplitl [H13]; · iapply (unread_held c arg15 harg15 x13); iexact H13
    isplitl [H14]; · iapply (unread_held c arg16 harg16 x14); iexact H14
    isplitl [H15]; · iapply (unread_held c arg17 harg17 x15); iexact H15
    isplitl [H16]; · iapply (unread_held c arg18 harg18 x16); iexact H16
    isplitl [H17]; · iexists _; iexact H17
    isplitl [Hb]; · iapply (unread_held c fbM (Memref.isWhole_whole _) xb); iexact Hb
    isplitl [F0 F0_dst F0_src R0]
    · isplitl [F0]; · iexact F0
      iexists _; isplitl [F0_dst]; · iexact F0_dst
      iapply (src_split c W (sI t.val 0) (bI t.val 0)).2; isplitl [F0_src]; · iexact F0_src
      iexact R0
    isplitl [F1 F1_dst F1_src R1]
    · isplitl [F1]; · iexact F1
      iexists _; isplitl [F1_dst]; · iexact F1_dst
      iapply (src_split c W (sI t.val 1) (bI t.val 1)).2; isplitl [F1_src]; · iexact F1_src
      iexact R1
    iexists _; iexact HO

end Cert.KernelIdeal.Hand

end
-- ==== Proof.KernelIdeal.Row.lean ====
module

public import proofs.«01_k».proof.Proof.KernelIdeal.RunC
public import Idealize.ShloMosaic.Lib.VecWindow

/-!
# What one point writes

Each point writes two rows of its output block, the first from the slot of row `2 * t`, the second from the slot of
row `2 * t + 1`. Here both are written as one function of the filterbank, the operand's row and the other operands.
-/

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- A row of the operand, as the body loads it. -/
def rowVec {c : Dev nD} (W : MBuf (F := F) c hbM) (b : Fin 64) : Vec F S1x257x3000 .f32 :=
  shapeCast S1x257x3000 ((srcB b).view.read (Elt F) W) (by decide)

/-- A whole buffer loaded whole is what it holds. -/
theorem ld_whole {sp : Space} {S : Shape} {e : EltTy} (M : Memref sig .tc sp S e) (h : M.IsWhole) (x : S.Idx → Elt F e)
    {off : Fin S.rank → ℕ} (inb : ∀ a, off a + S.size a ≤ S.size a) :
    M.view.readAt (Elt F) (Rect.unit off S.size inb).toLoadRect (h.unread x) = x := by
  rw [View.readAt_full, h.read_unread]

/-- A slot loaded after a row landed in it holds that row. -/
theorem ld_slot (s : Fin 4) {off : Fin 3 → ℕ} (e : off = ![s.val, 0, 0]) (inb : ∀ a, off a + S1x257x3000.size a ≤ S4x257x3000.size a)
    (f : (rslot s).view.ty.Contents (Elt F)) (u : S257x3000.Idx → Elt F .f32) :
    View.readAt (Elt F) scM.view (Rect.unit (s := S4x257x3000) off S1x257x3000.size inb).toLoadRect
      ((rslot s).view.writes (Elt F) f [⟨Rect.whole S257x3000, u⟩]) = shapeCast S1x257x3000 u (by decide) := by
  subst e
  have hu : (rslot s).view.read (Elt F) ((rslot s).view.writes (Elt F) f [⟨Rect.whole S257x3000, u⟩]) = u := by
    rw [← View.write_univ_eq_writes_whole, View.read_write_univ]
  conv_rhs => rw [← hu]
  funext y
  unfold shapeCast
  generalize (rslot s).view.writes (Elt F) f [⟨Rect.whole S257x3000, u⟩] = g
  show scM.view.read (Elt F) g ((Rect.unit (s := S4x257x3000) ![s.val, 0, 0] S1x257x3000.size inb).emb y)
    = scM.view.read (Elt F) g ((Rect.unit (s := S4x257x3000) ![s.val, 0, 0] S1x257x3000.size inb).emb (Shape.reshapeEquiv _ (Shape.reshapeEquiv _ y)))
  rw [Shape.reshapeEquiv_reshapeEquiv, Shape.reshapeEquiv_self]

section Out
variable (x1 : Vec F S64x80 .bf16) (x2 : Vec F S64x1 .f32) (x3 : Vec F S128x192 .bf16) (x4 : Vec F S128x1 .f32) (x5 : Vec F S128x384 .bf16) (x6 : Vec F S128x1 .f32) (x7 : Vec F S128x384 .bf16) (x8 : Vec F S128x1 .f32) (x9 : Vec F S64x128 .bf16) (x10 : Vec F S64x1 .f32) (x11 : Vec F S128x64 .bf16) (x12 : Vec F S128x1 .f32) (x13 : Vec F S256x1 .f32) (x14 : Vec F S256x1 .f32) (x15 : Vec F S256x512 .bf16) (x16 : Vec F S1x512 .f32) (xb : Vec F S80x256 .bf16) (v : Vec F S1x257x3000 .f32)

/-- The first row a point writes, from the filterbank `xb` and the operand's row `v`. -/
def rowOut : FVec F S1x1x512 .f32 :=
  k0_pay12 (k0_pay11 (k0_pay8 (k0_pay6 (k0_pay3 v) (k0_pay4 v xb) k0_pay5 x1 x2 x3 x4) (k0_pay7 (k0_pay3 v) (k0_pay4 v xb) k0_pay5 x1 x2 x3 x4 x5) x6 x7 x8)
    (k0_pay9 (k0_pay6 (k0_pay3 v) (k0_pay4 v xb) k0_pay5 x1 x2 x3 x4) (k0_pay7 (k0_pay3 v) (k0_pay4 v xb) k0_pay5 x1 x2 x3 x4 x5) x6 x7 x8 x9 x10 x11 x12)
    (k0_pay10 (k0_pay6 (k0_pay3 v) (k0_pay4 v xb) k0_pay5 x1 x2 x3 x4) (k0_pay7 (k0_pay3 v) (k0_pay4 v xb) k0_pay5 x1 x2 x3 x4 x5) x6 x7 x8 x9 x10 x11 x12) x13 x14) x15 x16
/-- The second row a point writes. -/
def rowOutB : FVec F S1x1x512 .f32 :=
  k0_pay1 (k0_pay19 (k0_pay15 (k0_pay14 (k0_pay13 v xb) x1 x2 x3 x4 x5 x6) (FloatOps.ofBits .f32 0#32) x7 x8)
    (k0_pay17 (k0_pay14 (k0_pay13 v xb) x1 x2 x3 x4 x5 x6) (FloatOps.ofBits .f32 0#32) x7 x8 x9 x10 x11 x12)
    (k0_pay18 (k0_pay14 (k0_pay13 v xb) x1 x2 x3 x4 x5 x6) (FloatOps.ofBits .f32 0#32) x7 x8 x9 x10 x11 x12) x13 x14 x15) x16

/-- The two rows are the same computation. -/
theorem rowOutB_eq : rowOutB x1 x2 x3 x4 x5 x6 x7 x8 x9 x10 x11 x12 x13 x14 x15 x16 xb v = rowOut x1 x2 x3 x4 x5 x6 x7 x8 x9 x10 x11 x12 x13 x14 x15 x16 xb v := rfl
end Out

/-- The pieces of the output block, from the filterbank and the point's two rows. -/
def outPieces (x1 : Vec F S64x80 .bf16) (x2 : Vec F S64x1 .f32) (x3 : Vec F S128x192 .bf16) (x4 : Vec F S128x1 .f32) (x5 : Vec F S128x384 .bf16) (x6 : Vec F S128x1 .f32) (x7 : Vec F S128x384 .bf16) (x8 : Vec F S128x1 .f32) (x9 : Vec F S64x128 .bf16) (x10 : Vec F S64x1 .f32) (x11 : Vec F S128x64 .bf16) (x12 : Vec F S128x1 .f32) (x13 : Vec F S256x1 .f32) (x14 : Vec F S256x1 .f32) (x15 : Vec F S256x512 .bf16) (x16 : Vec F S1x512 .f32) (xb : Vec F S80x256 .bf16) (v v' : Vec F S1x257x3000 .f32) : List (View.Piece (Elt F) S1x2x512 .f32) :=
  [⟨Rect.unit ![0, 1, 0] S1x1x512.size inb_S1x2x512_S1x1x512_0_1_0, rowOut x1 x2 x3 x4 x5 x6 x7 x8 x9 x10 x11 x12 x13 x14 x15 x16 xb v'⟩,
   ⟨Rect.unit ![0, 0, 0] S1x1x512.size inb_S1x2x512_S1x1x512_0_0_0, rowOut x1 x2 x3 x4 x5 x6 x7 x8 x9 x10 x11 x12 x13 x14 x15 x16 xb v⟩]

theorem outPieces_cover (x1 : Vec F S64x80 .bf16) (x2 : Vec F S64x1 .f32) (x3 : Vec F S128x192 .bf16) (x4 : Vec F S128x1 .f32) (x5 : Vec F S128x384 .bf16) (x6 : Vec F S128x1 .f32) (x7 : Vec F S128x384 .bf16) (x8 : Vec F S128x1 .f32) (x9 : Vec F S64x128 .bf16) (x10 : Vec F S64x1 .f32) (x11 : Vec F S128x64 .bf16) (x12 : Vec F S128x1 .f32) (x13 : Vec F S256x1 .f32) (x14 : Vec F S256x1 .f32) (x15 : Vec F S256x512 .bf16) (x16 : Vec F S1x512 .f32) (xb : Vec F S80x256 .bf16) (v v' : Vec F S1x257x3000 .f32) (y : S1x2x512.Idx) :
    ∃ p ∈ outPieces x1 x2 x3 x4 x5 x6 x7 x8 x9 x10 x11 x12 x13 x14 x15 x16 xb v v', y ∈ p.1.set :=
  View.cover_of_tiledL (outPieces x1 x2 x3 x4 x5 x6 x7 x8 x9 x10 x11 x12 x13 x14 x15 x16 xb v v') S1x1x512.size (by sl_kernel_rfl) y

section Runs
variable (c : Dev nD) (t : Fin cfg0.N) (arg2 : Memref sig .tc .vmem S80x8 .f32) (harg2 : arg2.IsWhole) (arg3 : Memref sig .tc .vmem S64x80 .bf16) (harg3 : arg3.IsWhole) (arg4 : Memref sig .tc .vmem S64x1 .f32) (harg4 : arg4.IsWhole) (arg5 : Memref sig .tc .vmem S128x192 .bf16) (harg5 : arg5.IsWhole) (arg6 : Memref sig .tc .vmem S128x1 .f32) (harg6 : arg6.IsWhole) (arg7 : Memref sig .tc .vmem S128x384 .bf16) (harg7 : arg7.IsWhole) (arg8 : Memref sig .tc .vmem S128x1 .f32) (harg8 : arg8.IsWhole) (arg9 : Memref sig .tc .vmem S128x384 .bf16) (harg9 : arg9.IsWhole) (arg10 : Memref sig .tc .vmem S128x1 .f32) (harg10 : arg10.IsWhole) (arg11 : Memref sig .tc .vmem S64x128 .bf16) (harg11 : arg11.IsWhole) (arg12 : Memref sig .tc .vmem S64x1 .f32) (harg12 : arg12.IsWhole) (arg13 : Memref sig .tc .vmem S128x64 .bf16) (harg13 : arg13.IsWhole) (arg14 : Memref sig .tc .vmem S128x1 .f32) (harg14 : arg14.IsWhole) (arg15 : Memref sig .tc .vmem S256x1 .f32) (harg15 : arg15.IsWhole) (arg16 : Memref sig .tc .vmem S256x1 .f32) (harg16 : arg16.IsWhole) (arg17 : Memref sig .tc .vmem S256x512 .bf16) (harg17 : arg17.IsWhole) (arg18 : Memref sig .tc .vmem S1x512 .f32) (harg18 : arg18.IsWhole) (arg19 : Memref sig .tc .vmem S1x2x512 .f32) (harg19 : arg19.IsWhole)
    (x0 : Vec F S80x8 .f32) (x1 : Vec F S64x80 .bf16) (x2 : Vec F S64x1 .f32) (x3 : Vec F S128x192 .bf16) (x4 : Vec F S128x1 .f32) (x5 : Vec F S128x384 .bf16) (x6 : Vec F S128x1 .f32) (x7 : Vec F S128x384 .bf16) (x8 : Vec F S128x1 .f32) (x9 : Vec F S64x128 .bf16) (x10 : Vec F S64x1 .f32) (x11 : Vec F S128x64 .bf16) (x12 : Vec F S128x1 .f32) (x13 : Vec F S256x1 .f32) (x14 : Vec F S256x1 .f32) (x15 : Vec F S256x512 .bf16) (x16 : Vec F S1x512 .f32) (xb : Vec F S80x256 .bf16) (W : MBuf (F := F) c hbM)

/-- Each operand's load, written out at the sizes the body loads. -/
theorem ld0 : View.readAt (Elt F) arg2.view (Rect.unit (s := S80x8) ![0, 0] ![80, 8] inb_S80x8_S80x8_0_0).toLoadRect (harg2.unread x0) = x0 := ld_whole _ _ _ _
theorem ld1 : View.readAt (Elt F) arg3.view (Rect.unit (s := S64x80) ![0, 0] ![64, 80] inb_S64x80_S64x80_0_0).toLoadRect (harg3.unread x1) = x1 := ld_whole _ _ _ _
theorem ld2 : View.readAt (Elt F) arg4.view (Rect.unit (s := S64x1) ![0, 0] ![64, 1] inb_S64x1_S64x1_0_0).toLoadRect (harg4.unread x2) = x2 := ld_whole _ _ _ _
theorem ld3 : View.readAt (Elt F) arg5.view (Rect.unit (s := S128x192) ![0, 0] ![128, 192] inb_S128x192_S128x192_0_0).toLoadRect (harg5.unread x3) = x3 := ld_whole _ _ _ _
theorem ld4 : View.readAt (Elt F) arg6.view (Rect.unit (s := S128x1) ![0, 0] ![128, 1] inb_S128x1_S128x1_0_0).toLoadRect (harg6.unread x4) = x4 := ld_whole _ _ _ _
theorem ld5 : View.readAt (Elt F) arg7.view (Rect.unit (s := S128x384) ![0, 0] ![128, 384] inb_S128x384_S128x384_0_0).toLoadRect (harg7.unread x5) = x5 := ld_whole _ _ _ _
theorem ld6 : View.readAt (Elt F) arg8.view (Rect.unit (s := S128x1) ![0, 0] ![128, 1] inb_S128x1_S128x1_0_0).toLoadRect (harg8.unread x6) = x6 := ld_whole _ _ _ _
theorem ld7 : View.readAt (Elt F) arg9.view (Rect.unit (s := S128x384) ![0, 0] ![128, 384] inb_S128x384_S128x384_0_0).toLoadRect (harg9.unread x7) = x7 := ld_whole _ _ _ _
theorem ld8 : View.readAt (Elt F) arg10.view (Rect.unit (s := S128x1) ![0, 0] ![128, 1] inb_S128x1_S128x1_0_0).toLoadRect (harg10.unread x8) = x8 := ld_whole _ _ _ _
theorem ld9 : View.readAt (Elt F) arg11.view (Rect.unit (s := S64x128) ![0, 0] ![64, 128] inb_S64x128_S64x128_0_0).toLoadRect (harg11.unread x9) = x9 := ld_whole _ _ _ _
theorem ld10 : View.readAt (Elt F) arg12.view (Rect.unit (s := S64x1) ![0, 0] ![64, 1] inb_S64x1_S64x1_0_0).toLoadRect (harg12.unread x10) = x10 := ld_whole _ _ _ _
theorem ld11 : View.readAt (Elt F) arg13.view (Rect.unit (s := S128x64) ![0, 0] ![128, 64] inb_S128x64_S128x64_0_0).toLoadRect (harg13.unread x11) = x11 := ld_whole _ _ _ _
theorem ld12 : View.readAt (Elt F) arg14.view (Rect.unit (s := S128x1) ![0, 0] ![128, 1] inb_S128x1_S128x1_0_0).toLoadRect (harg14.unread x12) = x12 := ld_whole _ _ _ _
theorem ld13 : View.readAt (Elt F) arg15.view (Rect.unit (s := S256x1) ![0, 0] ![256, 1] inb_S256x1_S256x1_0_0).toLoadRect (harg15.unread x13) = x13 := ld_whole _ _ _ _
theorem ld14 : View.readAt (Elt F) arg16.view (Rect.unit (s := S256x1) ![0, 0] ![256, 1] inb_S256x1_S256x1_0_0).toLoadRect (harg16.unread x14) = x14 := ld_whole _ _ _ _
theorem ld15 : View.readAt (Elt F) arg17.view (Rect.unit (s := S256x512) ![0, 0] ![256, 512] inb_S256x512_S256x512_0_0).toLoadRect (harg17.unread x15) = x15 := ld_whole _ _ _ _
theorem ld16 : View.readAt (Elt F) arg18.view (Rect.unit (s := S1x512) ![0, 0] ![1, 512] inb_S1x512_S1x512_0_0).toLoadRect (harg18.unread x16) = x16 := ld_whole _ _ _ _

theorem ldb : View.readAt (Elt F) (View.whole cc0_scratch1) (Rect.unit (s := S80x256) ![0, 0] ![80, 256] inb_S80x256_S80x256_0_0).toLoadRect ((Memref.isWhole_whole cc0_scratch1).unread xb) = xb := ld_whole _ _ _ _
theorem ldc : View.readCov (View.whole cc0_scratch1) [(⟨Rect.unit (s := S80x256) ![0, 0] ![80, 256] inb_S80x256_S80x256_0_0, xb⟩ : View.Piece (Elt F) S80x256 .bf16)] (Rect.unit (s := S80x256) ![0, 0] ![80, 256] inb_S80x256_S80x256_0_0).toLoadRect = xb :=
  View.readCov_full fbM.view inb_S80x256_S80x256_0_0 inb_S80x256_S80x256_0_0 xb []

theorem runA_slot : runA.sl.v23 c t W = rowVec W (bI t.val 0) :=
  ld_slot (F := F) (sI t.val 0) (off7_eq t 0) (k0_off7_inb (grid0.coords t) 0) _ _
theorem runA_slot' : runA.sl.v183 c t W = rowVec W (bI t.val 1) :=
  ld_slot (F := F) (sI t.val 1) (off7_eq t 1) (k0_off7_inb (grid0.coords t) 1) _ _
set_option maxHeartbeats 400000 in
theorem runA_pieces (hc0 : first (grid0.coords t)) (hc1 : more (grid0.coords t)) :
    (runA c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 x15 x16 W).1.1 = outPieces x1 x2 x3 x4 x5 x6 x7 x8 x9 x10 x11 x12 x13 x14 x15 x16 (k0_pay2 x0) (rowVec W (bI t.val 0)) (rowVec W (bI t.val 1)) := by
  unfold outPieces
  rw [← rowOutB_eq]
  unfold rowOut rowOutB
  dsimp only [runA, runA.sl.cst_106, runA.sl.v25, runA.sl.v185, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.Hb_1]
  simp only [runA_slot, runA_slot', ld0, ld1, ld2, ld3, ld4, ld5, ld6, ld7, ld8, ld9, ld10, ld11, ld12, ld13, ld14, ld15, ld16, ldb]
  rw [ldc]

theorem runB_slot : runB.sl.v23 c t W = rowVec W (bI t.val 0) :=
  ld_slot (F := F) (sI t.val 0) (off7_eq t 0) (k0_off7_inb (grid0.coords t) 0) _ _
theorem runB_slot' : runB.sl.v183 c t W = rowVec W (bI t.val 1) :=
  ld_slot (F := F) (sI t.val 1) (off7_eq t 1) (k0_off7_inb (grid0.coords t) 1) _ _
set_option maxHeartbeats 400000 in
theorem runB_pieces (hc0 : ¬first (grid0.coords t)) (hc1 : more (grid0.coords t)) :
    (runB c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 x15 x16 xb W).1 = outPieces x1 x2 x3 x4 x5 x6 x7 x8 x9 x10 x11 x12 x13 x14 x15 x16 xb (rowVec W (bI t.val 0)) (rowVec W (bI t.val 1)) := by
  unfold outPieces
  rw [← rowOutB_eq]
  unfold rowOut rowOutB
  dsimp only [runB, runB.sl.cst_106, runB.sl.v25, runB.sl.v185, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12]
  simp only [runB_slot, runB_slot', ld0, ld1, ld2, ld3, ld4, ld5, ld6, ld7, ld8, ld9, ld10, ld11, ld12, ld13, ld14, ld15, ld16, ldb]

theorem runC_slot : runC.sl.v23 c t W = rowVec W (bI t.val 0) :=
  ld_slot (F := F) (sI t.val 0) (off7_eq t 0) (k0_off7_inb (grid0.coords t) 0) _ _
theorem runC_slot' : runC.sl.v183 c t W = rowVec W (bI t.val 1) :=
  ld_slot (F := F) (sI t.val 1) (off7_eq t 1) (k0_off7_inb (grid0.coords t) 1) _ _
set_option maxHeartbeats 400000 in
theorem runC_pieces (hc0 : ¬first (grid0.coords t)) (hc1 : ¬more (grid0.coords t)) :
    (runC c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 x15 x16 xb W).1 = outPieces x1 x2 x3 x4 x5 x6 x7 x8 x9 x10 x11 x12 x13 x14 x15 x16 xb (rowVec W (bI t.val 0)) (rowVec W (bI t.val 1)) := by
  unfold outPieces
  rw [← rowOutB_eq]
  unfold rowOut rowOutB
  dsimp only [runC, runC.sl.cst_106, runC.sl.v25, runC.sl.v185, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12]
  simp only [runC_slot, runC_slot', ld0, ld1, ld2, ld3, ld4, ld5, ld6, ld7, ld8, ld9, ld10, ld11, ld12, ld13, ld14, ld15, ld16, ldb]

theorem runA_bank (hc0 : first (grid0.coords t)) (hc1 : more (grid0.coords t)) :
    (runA c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 x15 x16 W).1.2 = [⟨Rect.unit ![0, 0] S80x256.size inb_S80x256_S80x256_0_0, k0_pay2 x0⟩] := by
  dsimp only [runA, runA.sl.Hb_1]
  rw [ld_whole]

end Runs

end Cert.KernelIdeal.Hand

end
-- ==== Proof.KernelIdeal.Frame.lean ====
module

public import proofs.«01_k».proof.Proof.KernelIdeal.Row

/-!
# The kernel's run

What is held before each grid point, the body's triple at each of its three kinds of point, and the launch: the run
ends, the arguments are unchanged, the counters are at zero, and the result array holds the rows written point by point.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's lines at this resource -/

set_option maxHeartbeats 800000 in
/-- The program around its one region. -/
theorem around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## What each point leaves -/

/-- The first grid point. -/
def start : Fin cfg0.N := ⟨0, lt_of_lt_of_eq (by decide : 0 < 32) (show 32 = cfg0.N from N_0.symm)⟩
/-- The filterbank, as the first point computes it from its block of the table. -/
def bank (c : Dev nD) : Vec F S80x256 .bf16 := k0_pay2 (iblk m c 0 start)
/-- The pieces point `t` stores in its output block. -/
def pieces (c : Dev nD) (t : Fin cfg0.N) : List (View.Piece (Elt F) S1x2x512 .f32) :=
  outPieces (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (bank m c)
    (rowVec (V m c main_v0) (bI t.val 0)) (rowVec (V m c main_v0) (bI t.val 1))
abbrev outV : View sig .tc .vmem S1x2x512 .f32 := (Memref.whole cc0_stg17_0 : Memref sig .tc .vmem S1x2x512 .f32).view
/-- The output block point `t` leaves. -/
def outBlk (c : Dev nD) (t : Fin cfg0.N) : Vec F S1x2x512 .f32 := outV.read (Elt F) (outV.writes (Elt F) outV.junk (pieces m c t))

/-- The filterbank's scratch before point `k`: anything before the first, the filterbank after. -/
def bankAt (c : Dev nD) (k : ℕ) : sProp 𝕄 :=
  if k = 0 then iprop(∃ d, owns (c : Thread nD τ) fbM fullShare d) else owns (c : Thread nD τ) fbM fullShare (bank m c)
/-- What is held before point `k` beside the windows. -/
def heldAt (c : Dev nD) (k : ℕ) : sProp 𝕄 := iprop((∃ r, prngReg c r) ∗ slotsAt c (V m c main_v0) k ∗ bankAt m c k)

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outBlk m c t
    | ⟨_ + 18, h⟩ => absurd h (Nat.not_lt.2 (Nat.le_add_left _ _))
  Φ t := heldAt m c t.val
  q _ := fullShare
  owed _ := 0

theorem A_eq (c : Dev nD) (w : Fin cfg0.W) : (dats m 0 c).A w = V m c (Pipeline.arrRef spec0 w) := by
  dsimp only [dats]
theorem heldAt_castSucc (c : Dev nD) (t : Fin cfg0.N) : (dats m 0 c).Φ t.castSucc = heldAt m c t.val := by
  dsimp only [dats]; simp only [Fin.val_castSucc]
theorem heldAt_succ (c : Dev nD) (t : Fin cfg0.N) : (dats m 0 c).Φ t.succ = heldAt m c (t.val + 1) := by
  dsimp only [dats]; simp only [Fin.val_succ]

/-- What the body leaves in each window's buffer; each input's buffer holds its block throughout. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = outBlk m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)

/-! ## The body at each point -/

/-- Each window's buffer at a point. -/
abbrev ms0_0 (t : Fin cfg0.N) : Memref sig .tc .vmem S80x8 .f32 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S64x80 .bf16 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S64x1 .f32 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S128x192 .bf16 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S128x1 .f32 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S128x384 .bf16 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S128x1 .f32 := win0_6.stage (cfg0.slots t 6)
theorem hs0_6 (t : Fin cfg0.N) : (ms0_6 t).IsWhole := hstage0_6 ((cfg0.slots t 6).cast nbuf0_6)
abbrev ms0_7 (t : Fin cfg0.N) : Memref sig .tc .vmem S128x384 .bf16 := win0_7.stage (cfg0.slots t 7)
theorem hs0_7 (t : Fin cfg0.N) : (ms0_7 t).IsWhole := hstage0_7 ((cfg0.slots t 7).cast nbuf0_7)
abbrev ms0_8 (t : Fin cfg0.N) : Memref sig .tc .vmem S128x1 .f32 := win0_8.stage (cfg0.slots t 8)
theorem hs0_8 (t : Fin cfg0.N) : (ms0_8 t).IsWhole := hstage0_8 ((cfg0.slots t 8).cast nbuf0_8)
abbrev ms0_9 (t : Fin cfg0.N) : Memref sig .tc .vmem S64x128 .bf16 := win0_9.stage (cfg0.slots t 9)
theorem hs0_9 (t : Fin cfg0.N) : (ms0_9 t).IsWhole := hstage0_9 ((cfg0.slots t 9).cast nbuf0_9)
abbrev ms0_10 (t : Fin cfg0.N) : Memref sig .tc .vmem S64x1 .f32 := win0_10.stage (cfg0.slots t 10)
theorem hs0_10 (t : Fin cfg0.N) : (ms0_10 t).IsWhole := hstage0_10 ((cfg0.slots t 10).cast nbuf0_10)
abbrev ms0_11 (t : Fin cfg0.N) : Memref sig .tc .vmem S128x64 .bf16 := win0_11.stage (cfg0.slots t 11)
theorem hs0_11 (t : Fin cfg0.N) : (ms0_11 t).IsWhole := hstage0_11 ((cfg0.slots t 11).cast nbuf0_11)
abbrev ms0_12 (t : Fin cfg0.N) : Memref sig .tc .vmem S128x1 .f32 := win0_12.stage (cfg0.slots t 12)
theorem hs0_12 (t : Fin cfg0.N) : (ms0_12 t).IsWhole := hstage0_12 ((cfg0.slots t 12).cast nbuf0_12)
abbrev ms0_13 (t : Fin cfg0.N) : Memref sig .tc .vmem S256x1 .f32 := win0_13.stage (cfg0.slots t 13)
theorem hs0_13 (t : Fin cfg0.N) : (ms0_13 t).IsWhole := hstage0_13 ((cfg0.slots t 13).cast nbuf0_13)
abbrev ms0_14 (t : Fin cfg0.N) : Memref sig .tc .vmem S256x1 .f32 := win0_14.stage (cfg0.slots t 14)
theorem hs0_14 (t : Fin cfg0.N) : (ms0_14 t).IsWhole := hstage0_14 ((cfg0.slots t 14).cast nbuf0_14)
abbrev ms0_15 (t : Fin cfg0.N) : Memref sig .tc .vmem S256x512 .bf16 := win0_15.stage (cfg0.slots t 15)
theorem hs0_15 (t : Fin cfg0.N) : (ms0_15 t).IsWhole := hstage0_15 ((cfg0.slots t 15).cast nbuf0_15)
abbrev ms0_16 (t : Fin cfg0.N) : Memref sig .tc .vmem S1x512 .f32 := win0_16.stage (cfg0.slots t 16)
theorem hs0_16 (t : Fin cfg0.N) : (ms0_16 t).IsWhole := hstage0_16 ((cfg0.slots t 16).cast nbuf0_16)
abbrev ms0_17 (t : Fin cfg0.N) : Memref sig .tc .vmem S1x2x512 .f32 := win0_17.stage (cfg0.slots t 17)
theorem hs0_17 (t : Fin cfg0.N) : (ms0_17 t).IsWhole := hstage0_17 ((cfg0.slots t 17).cast nbuf0_17)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

section Steps
variable (c : Dev nD) (W : MBuf (F := F) c hbM)
theorem slotsAt_edge {k : ℕ} (h : k = 0 ∨ k = 32) : slotsAt c W k
    = iprop(Ring.free (cellP c) (slotW c W) (sI k 0) ∗ Ring.free (cellP c) (slotW c W) (sI k 1)
      ∗ Ring.free (cellP c) (slotW c W) (sI (k + 1) 0) ∗ Ring.free (cellP c) (slotW c W) (sI (k + 1) 1)) := if_pos h
theorem slotsAt_mid {k : ℕ} (h : ¬(k = 0 ∨ k = 32)) : slotsAt c W k
    = iprop(Ring.inflight (flightW c W) (sI k 0) (bI k 0) ∗ Ring.inflight (flightW c W) (sI k 1) (bI k 1)
      ∗ Ring.free (cellP c) (slotW c W) (sI (k + 1) 0) ∗ Ring.free (cellP c) (slotW c W) (sI (k + 1) 1)) := if_neg h
end Steps

/-- The pieces stored in the output block read as that block, whatever was there. -/
theorem out_read (c : Dev nD) (t : Fin cfg0.N) {sp : Space} (M : Memref sig .tc sp S1x2x512 .f32) (f) :
    M.view.read (Elt F) (M.view.writes (Elt F) f (pieces m c t)) = outBlk m c t :=
  View.read_writes_of_cover _ _ _ _ _ (outPieces_cover _ _ _ _ _ _ _ _ _ _ _ _ _ _ _ _ _ _ _)
/-- The filterbank stored whole reads as it. -/
theorem bank_read (c : Dev nD) (f) :
    fbM.view.read (Elt F) (fbM.view.writes (Elt F) f [⟨Rect.unit ![0, 0] S80x256.size inb_S80x256_S80x256_0_0, bank m c⟩]) = bank m c :=
  View.read_writes_full _ _ _ _ _

set_option maxHeartbeats 4800000 in
/-- The body at the first point: all four slots free. -/
theorem soundA (c : Dev nD) (t : Fin cfg0.N) (h : t.val = 0) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before_0, before_1, before_2, before_3, before_4, before_5, before_6, before_7, before_8, before_9, before_10, before_11, before_12, before_13, before_14, before_15, before_16]
  rw [after_0, after_1, after_2, after_3, after_4, after_5, after_6, after_7, after_8, after_9, after_10, after_11, after_12, after_13, after_14, after_15, after_16, after_17]
  rw [heldAt_castSucc m c t, heldAt_succ m c t]
  unfold Dat.owesAt Pipeline.owesWithin
  rw [show (dats m 0 c).owed t.castSucc = 0 from rfl, show (dats m 0 c).owed t.succ = 0 from rfl]
  unfold heldAt bankAt
  obtain rfl : t = start := Fin.ext h
  rw [if_pos h, if_neg (Nat.succ_ne_zero _), slotsAt_edge c _ (Or.inl h), slotsAt_mid c _ (by omega), sI_add_two, sI_add_two]
  iintro ⟨⟨Hg, ⟨R0, R1, R2, R3⟩, Hb⟩, ⟨%O, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runA c start (ms0_0 start) (hs0_0 start) (ms0_1 start) (hs0_1 start) (ms0_2 start) (hs0_2 start) (ms0_3 start) (hs0_3 start) (ms0_4 start) (hs0_4 start) (ms0_5 start) (hs0_5 start) (ms0_6 start) (hs0_6 start) (ms0_7 start) (hs0_7 start) (ms0_8 start) (hs0_8 start) (ms0_9 start) (hs0_9 start) (ms0_10 start) (hs0_10 start) (ms0_11 start) (hs0_11 start) (ms0_12 start) (hs0_12 start) (ms0_13 start) (hs0_13 start) (ms0_14 start) (hs0_14 start) (ms0_15 start) (hs0_15 start) (ms0_16 start) (hs0_16 start) (ms0_17 start) (hs0_17 start) ((first_iff start).mpr h) ((more_iff start).mpr (by omega)) (iblk m c 0 start) (iblk m c 1 start) (iblk m c 2 start) (iblk m c 3 start) (iblk m c 4 start) (iblk m c 5 start) (iblk m c 6 start) (iblk m c 7 start) (iblk m c 8 start) (iblk m c 9 start) (iblk m c 10 start) (iblk m c 11 start) (iblk m c 12 start) (iblk m c 13 start) (iblk m c 14 start) (iblk m c 15 start) (iblk m c 16 start) (V m c main_v0)).2 _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [Hb]; · iexact Hb
  isplitl [R0]; · iexact R0
  isplitl [R1]; · iexact R1
  isplitl [R2]; · iexact R2
  isplitl [R3]; · iexact R3
  isplitl [HO]; · iexact HO
  iintro ⟨H0, H1, H2, H3, H4, H5, H6, H7, H8, H9, H10, H11, H12, H13, H14, H15, H16, ⟨%e17, H17⟩, ⟨%eb, Hb⟩, T0, T1, T2, T3, ⟨%O', HO⟩⟩
  isplitl [Hg T0 T1 T2 T3 Hb]
  · isplitl [Hg]; · iexact Hg
    isplitl [T0 T1 T2 T3]
    · isplitl [T0]; · iexact T0
      isplitl [T1]; · iexact T1
      isplitl [T2]; · iexact T2
      iexact T3
    unfold owns; iexists _; isplitr
    swap; · iexact Hb
    ipureintro; rw [runA_bank]; exact bank_read m c _
  isplitl [HO]
  · iexists O'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  unfold owns; iexists _; isplitr
  swap; · iexact H17
  ipureintro; rw [runA_pieces]; exact out_read m c _ _ _

set_option maxHeartbeats 4800000 in
/-- The body at a point between: two rows in flight, two slots free. -/
theorem soundB (c : Dev nD) (t : Fin cfg0.N) (h0 : ¬t.val = 0) (h1 : t.val < 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before_0, before_1, before_2, before_3, before_4, before_5, before_6, before_7, before_8, before_9, before_10, before_11, before_12, before_13, before_14, before_15, before_16]
  rw [after_0, after_1, after_2, after_3, after_4, after_5, after_6, after_7, after_8, after_9, after_10, after_11, after_12, after_13, after_14, after_15, after_16, after_17]
  rw [heldAt_castSucc m c t, heldAt_succ m c t]
  unfold Dat.owesAt Pipeline.owesWithin
  rw [show (dats m 0 c).owed t.castSucc = 0 from rfl, show (dats m 0 c).owed t.succ = 0 from rfl]
  unfold heldAt bankAt
  rw [if_neg h0, if_neg (Nat.succ_ne_zero _), slotsAt_mid c _ (by omega), slotsAt_mid c _ (by omega), sI_add_two, sI_add_two]
  iintro ⟨⟨Hg, ⟨R0, R1, R2, R3⟩, Hb⟩, ⟨%O, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runB c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun e => h0 ((first_iff t).mp e)) ((more_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (bank m c) (V m c main_v0)).2 _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [Hb]; · iexact Hb
  isplitl [R0]; · iexact R0
  isplitl [R1]; · iexact R1
  isplitl [R2]; · iexact R2
  isplitl [R3]; · iexact R3
  isplitl [HO]; · iexact HO
  iintro ⟨H0, H1, H2, H3, H4, H5, H6, H7, H8, H9, H10, H11, H12, H13, H14, H15, H16, ⟨%e17, H17⟩, Hb, T0, T1, T2, T3, ⟨%O', HO⟩⟩
  isplitl [Hg T0 T1 T2 T3 Hb]
  · isplitl [Hg]; · iexact Hg
    isplitl [T0 T1 T2 T3]
    · isplitl [T0]; · iexact T0
      isplitl [T1]; · iexact T1
      isplitl [T2]; · iexact T2
      iexact T3
    iexact Hb
  isplitl [HO]
  · iexists O'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  unfold owns; iexists _; isplitr
  swap; · iexact H17
  ipureintro; rw [runB_pieces]; exact out_read m c _ _ _

set_option maxHeartbeats 4800000 in
/-- The body at the last point: nothing more is started. -/
theorem soundC (c : Dev nD) (t : Fin cfg0.N) (h : t.val = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before_0, before_1, before_2, before_3, before_4, before_5, before_6, before_7, before_8, before_9, before_10, before_11, before_12, before_13, before_14, before_15, before_16]
  rw [after_0, after_1, after_2, after_3, after_4, after_5, after_6, after_7, after_8, after_9, after_10, after_11, after_12, after_13, after_14, after_15, after_16, after_17]
  rw [heldAt_castSucc m c t, heldAt_succ m c t]
  unfold Dat.owesAt Pipeline.owesWithin
  rw [show (dats m 0 c).owed t.castSucc = 0 from rfl, show (dats m 0 c).owed t.succ = 0 from rfl]
  unfold heldAt bankAt
  rw [if_neg (by omega), if_neg (Nat.succ_ne_zero _), slotsAt_mid c _ (by omega), slotsAt_edge c _ (k := t.val + 1) (by omega), sI_add_two, sI_add_two]
  iintro ⟨⟨Hg, ⟨R0, R1, R2, R3⟩, Hb⟩, ⟨%O, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runC c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun e => by have := (first_iff t).mp e; omega) (fun e => by have := (more_iff t).mp e; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (bank m c) (V m c main_v0)).2 _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [Hb]; · iexact Hb
  isplitl [R0]; · iexact R0
  isplitl [R1]; · iexact R1
  isplitl [HO]; · iexact HO
  iintro ⟨H0, H1, H2, H3, H4, H5, H6, H7, H8, H9, H10, H11, H12, H13, H14, H15, H16, ⟨%e17, H17⟩, Hb, T2, T3, ⟨%O', HO⟩⟩
  isplitl [Hg R2 R3 T2 T3 Hb]
  · isplitl [Hg]; · iexact Hg
    isplitl [R2 R3 T2 T3]
    · isplitl [R2]; · iexact R2
      isplitl [R3]; · iexact R3
      isplitl [T2]; · iexact T2
      iexact T3
    iexact Hb
  isplitl [HO]
  · iexists O'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  unfold owns; iexists _; isplitr
  swap; · iexact H17
  ipureintro; rw [runC_pieces]; exact out_read m c _ _ _

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  by_cases h0 : t.val = 0
  · exact soundA m c t h0
  · by_cases h1 : t.val < 31
    · exact soundB m c t h0 h1
    · exact soundC m c t (by omega)

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what is held before the first point, and what is held after the last is handed back. -/
theorem hin (c : Dev nD) : Pipeline.ΦD osem spec0 streamed (V m) c ⊢ (dats m 0 c).Φ 0 := by
  rw [handed_eq, show (dats m 0 c).Φ 0 = heldAt m c 0 from rfl]
  unfold heldAt bankAt
  rw [if_pos rfl, slotsAt_first]
  iintro ⟨⟨Hs, Hb⟩, Hg, Hq, Hh⟩
  isplitl [Hg]; · iexact Hg
  isplitl [Hs Hq Hh]
  · iapply (free_iff (F := F) c (V m c main_v0)).2
    isplitl [Hs]; · iexact Hs
    isplitl [Hq]; · iexact Hq
    iexact Hh
  iexact Hb
theorem hout (c : Dev nD) : (dats m 0 c).Φ (Fin.last cfg0.N) ⊢ Pipeline.ΦD osem spec0 streamed (V m) c := by
  rw [handed_eq, show (dats m 0 c).Φ (Fin.last cfg0.N) = heldAt m c grid0.N from rfl]
  unfold heldAt bankAt
  rw [show grid0.N = 32 by rw [N_0], if_neg (by decide), slotsAt_last]
  iintro ⟨Hg, HR, Hb⟩
  ihave HX := (free_iff (F := F) c (V m c main_v0)).1 $$ HR
  icases HX with ⟨Hs, Hq, Hh⟩
  isplitl [Hs Hb]
  · isplitl [Hs]; · iexact Hs
    iexists _; iexact Hb
  isplitl [Hg]; · iexact Hg
  isplitl [Hq]; · iexact Hq
  iexact Hh

/-! ## The launch -/

set_option backward.isDefEq.respectTransparency.types false in
set_option maxHeartbeats 800000 in
/-- The run: every array at what the proof data say, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem defs₀ Variants.none ownSemFacts streamed streamed_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := around m Variants.none) (hA := A_eq m) (hin := hin m) (hout := hout m)

/-- A buffer no line and no window writes ends as launched. -/
theorem kept (b : Ref sig .tc) (hs : b.isScoped = false) (ha : ∀ w, Pipeline.arrRef spec0 w ≠ b) (h46 : b ≠ main_v46)
    (hV : ∀ c, V m c b = m ((c : Thread nD τ).loc b)) {r} (h : Pipeline.FramePost cfgs (dats m) 0 (Pipeline.afterTail₀ cfgs (dats m) 0 (V0 m) [hostOps1]) r) (c : Dev nD) :
    r.2.mem ((c.tc : Thread nD τ).loc b) = m ((c.tc : Thread nD τ).loc b) := by
  refine ((h c).2 b (Pipeline.mem_restRefs_of b hs ha)).trans ?_
  unfold Pipeline.afterTail₀
  rw [StableHlo.after_of_forall_not_mem (b := Proc.devRef .tc b) _ _ (by
      intro op hop
      simp only [hostOps1, List.flatten_cons, List.flatten_nil, List.append_nil, List.mem_cons, List.mem_nil_iff, or_false] at hop
      rcases hop with rfl
      simp only [StableHlo.reshape_writes, Finset.mem_singleton]
      exact StableHlo.devRef_ne_of_ne h46),
    Pipeline.withArrays_of_ne _ c (V0 m c) _ b ha]
  exact hV c

/-- The run ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => ⟨kept m main_arg0 rfl (by decide) (by decide) (V_main_arg0 m) h.1 c,
    kept m main_arg1 rfl (by decide) (by decide) (V_main_arg1 m) h.1 c,
    kept m main_arg2 rfl (by decide) (by decide) (V_main_arg2 m) h.1 c,
    kept m main_arg3 rfl (by decide) (by decide) (V_main_arg3 m) h.1 c,
    kept m main_arg4 rfl (by decide) (by decide) (V_main_arg4 m) h.1 c,
    kept m main_arg5 rfl (by decide) (by decide) (V_main_arg5 m) h.1 c,
    kept m main_arg6 rfl (by decide) (by decide) (V_main_arg6 m) h.1 c,
    kept m main_arg7 rfl (by decide) (by decide) (V_main_arg7 m) h.1 c,
    kept m main_arg8 rfl (by decide) (by decide) (V_main_arg8 m) h.1 c,
    kept m main_arg9 rfl (by decide) (by decide) (V_main_arg9 m) h.1 c,
    kept m main_arg10 rfl (by decide) (by decide) (V_main_arg10 m) h.1 c,
    kept m main_arg11 rfl (by decide) (by decide) (V_main_arg11 m) h.1 c,
    kept m main_arg12 rfl (by decide) (by decide) (V_main_arg12 m) h.1 c,
    kept m main_arg13 rfl (by decide) (by decide) (V_main_arg13 m) h.1 c,
    kept m main_arg14 rfl (by decide) (by decide) (V_main_arg14 m) h.1 c,
    kept m main_arg15 rfl (by decide) (by decide) (V_main_arg15 m) h.1 c,
    kept m main_arg16 rfl (by decide) (by decide) (V_main_arg16 m) h.1 c,
    kept m main_arg17 rfl (by decide) (by decide) (V_main_arg17 m) h.1 c⟩, h.2⟩) (run_main_quiescent m ρ)

end Cert.KernelIdeal.Hand

end
-- ==== Proof.Value.Spec.lean ====
module

public import Idealize.ShloMosaic.Lib.Pointwise

/-!
# The computation, one batch row at a time, over the extended reals

Every stage of the network as a function of plain coordinates: the filterbank, the three dilated convolutions, the
attention, the pooled statistics, the normalisation and the last layer. Both programs are shown to compute these.
-/

@[expose] public section

noncomputable section

namespace Cert.Spec

open Idealize.ShloMosaic

/-- The literal one. -/
abbrev one : EReal := 1

/-- A squared width where it is positive, one where it is not. -/
def guard (d : EReal) : EReal := if 0 < d then d else one

/-- One value of the filterbank: rising from `lo` to `mid`, falling from `mid` to `hi`, at frequency bin `f`. -/
def bankAt (lo mid hi flo fmid fhi f mask : EReal) : EReal :=
  (if flo ≤ f ∧ f < fmid then Ideal.div (f - lo) (guard ((mid - lo) * (mid - lo)))
    else if fmid ≤ f ∧ f < fhi then Ideal.div (hi - f) (guard ((hi - mid) * (hi - mid))) else 0) * mask

/-- The largest whole number below. -/
abbrev flo (x : EReal) : EReal := Ideal.liftRound Int.floor x

/-- The filterbank at filter `n` and frequency bin `f`, from the bin points. -/
def bank (B : Fin 82 → EReal) (n : Fin 80) (f : ℕ) : EReal :=
  bankAt (B ⟨n, by omega⟩) (B ⟨n + 1, by omega⟩) (B ⟨n + 2, by omega⟩) (flo (B ⟨n, by omega⟩)) (flo (B ⟨n + 1, by omega⟩))
    (flo (B ⟨n + 2, by omega⟩)) ((f : ℝ) : EReal) (if n.val < 79 then 1 else 0)

/-- The filtered row, its first filter replaced by the lowest frequency. -/
def filt (K : Fin 80 → Fin 256 → EReal) (X : Fin 257 → Fin 3000 → EReal) (n : Fin 80) (t : Fin 3000) : EReal :=
  if n.val = 0 then X 0 t else ∑ f : Fin 256, K n f * X ⟨f, by omega⟩ t

/-- A linear layer over channels. -/
def lin {a b : ℕ} (w : Fin a → Fin b → EReal) (v : Fin a → EReal) (h : Fin b → Fin 3000 → EReal) (o : Fin a) (t : Fin 3000) : EReal :=
  (∑ c : Fin b, w o c * h c t) + v o

/-- The signal `d` steps ago, zero before the start. -/
def back {b : ℕ} (d : ℕ) (h : Fin b → Fin 3000 → EReal) (c : Fin b) (t : Fin 3000) : EReal :=
  if d ≤ t.val then h c ⟨t.val - d, by omega⟩ else 0

/-- The signal `d` steps ahead, zero past the end. -/
def ahead {b : ℕ} (d : ℕ) (h : Fin b → Fin 3000 → EReal) (c : Fin b) (t : Fin 3000) : EReal :=
  if hd : t.val + d < 3000 then h c ⟨t.val + d, hd⟩ else 0

/-- A convolution of three taps, `d` steps apart. -/
def conv {b : ℕ} (d : ℕ) (w : Fin 128 → Fin b → Fin 3 → EReal) (v : Fin 128 → EReal) (h : Fin b → Fin 3000 → EReal)
    (o : Fin 128) (t : Fin 3000) : EReal :=
  (∑ c : Fin b, w o c 0 * back d h c t) + (∑ c : Fin b, w o c 1 * h c t) + (∑ c : Fin b, w o c 2 * ahead d h c t) + v o

/-- The arguments the two programs share, apart from the row and the bin points. -/
@[ext] structure Par where
  w1 : Fin 64 → Fin 80 → EReal
  v1 : Fin 64 → EReal
  c1 : Fin 128 → Fin 64 → Fin 3 → EReal
  u1 : Fin 128 → EReal
  c2 : Fin 128 → Fin 128 → Fin 3 → EReal
  u2 : Fin 128 → EReal
  c3 : Fin 128 → Fin 128 → Fin 3 → EReal
  u3 : Fin 128 → EReal
  a1 : Fin 64 → Fin 128 → EReal
  b1 : Fin 64 → EReal
  a2 : Fin 128 → Fin 64 → EReal
  b2 : Fin 128 → EReal
  g : Fin 256 → EReal
  be : Fin 256 → EReal
  l : Fin 512 → Fin 256 → EReal
  z : Fin 512 → EReal

variable (P : Par) (f : Fin 80 → Fin 3000 → EReal)

/-- The hidden layer. -/
def hid (o : Fin 64) (t : Fin 3000) : EReal := max (lin P.w1 P.v1 f o t) 0
/-- The first convolution. -/
def i1 : Fin 128 → Fin 3000 → EReal := conv 2 P.c1 P.u1 (hid P f)
/-- The second, with its skip. -/
def i2 (o : Fin 128) (t : Fin 3000) : EReal := conv 3 P.c2 P.u2 (i1 P f) o t + i1 P f o t
/-- Their sum. -/
def i12 (o : Fin 128) (t : Fin 3000) : EReal := i1 P f o t + i2 P f o t
/-- The third, with both skips. -/
def i3 (o : Fin 128) (t : Fin 3000) : EReal := conv 4 P.c3 P.u3 (i12 P f) o t + i12 P f o t

variable (y : Fin 128 → Fin 3000 → EReal)

/-- The attention's hidden layer. -/
def att (o : Fin 64) (t : Fin 3000) : EReal := Ideal.tanh (lin P.a1 P.b1 y o t)
/-- The attention's scores. -/
def sc (o : Fin 128) (t : Fin 3000) : EReal := lin P.a2 P.b2 (att P y) o t
/-- The largest score of a channel. -/
def top (o : Fin 128) : EReal := (Finset.univ : Finset (Fin 3000)).fold max ⊥ (fun t => sc P y o t)
/-- The unnormalised weights. -/
def wt (o : Fin 128) (t : Fin 3000) : EReal := Ideal.exp (sc P y o t - top P y o)
/-- Their sum. -/
def tot (o : Fin 128) : EReal := ∑ t : Fin 3000, wt P y o t
/-- The weighted mean. -/
def mean (o : Fin 128) : EReal := (∑ t : Fin 3000, wt P y o t * y o t) * Ideal.div one (tot P y o)
/-- The weighted mean of squares. -/
def msq (o : Fin 128) : EReal := (∑ t : Fin 3000, wt P y o t * y o t * y o t) * Ideal.div one (tot P y o)

/-- The standard deviation, from a mean and a mean of squares. -/
def dev (a s : EReal) : EReal := Ideal.sqrt (max (Ideal.ofBits .f32 0x3089705F#32) (s - a * a))

/-- The pooled statistics, from the means and the means of squares. -/
def pool (a s : Fin 128 → EReal) (k : Fin 256) : EReal :=
  if h : k.val < 128 then a ⟨k, h⟩ else dev (a ⟨k.val - 128, by omega⟩) (s ⟨k.val - 128, by omega⟩)

variable (p : Fin 256 → EReal)

/-- The literal 256. -/
abbrev n256 : EReal := Ideal.ofBits .f32 0x43800000#32
/-- Their mean. -/
def mu : EReal := Ideal.div (∑ k : Fin 256, p k) n256
/-- Their variance. -/
def var : EReal := Ideal.div (∑ k : Fin 256, (p k - mu p) * (p k - mu p)) n256
/-- The normalised statistics. -/
def gn (k : Fin 256) : EReal :=
  Ideal.div (p k - mu p) (Ideal.sqrt (var p + Ideal.ofBits .f32 0x3727C5AC#32)) * P.g k + P.be k
/-- The last layer. -/
def out (q : Fin 512) : EReal := (∑ k : Fin 256, gn P p k * P.l q k) + P.z q

/-- The whole row, from the filterbank. -/
def row (K : Fin 80 → Fin 256 → EReal) (X : Fin 257 → Fin 3000 → EReal) (q : Fin 512) : EReal :=
  out P (pool (mean P (i3 P (filt K X))) (msq P (i3 P (filt K X)))) q

/-- A sum over three blocks of equal length. -/
theorem sum_three {M : Type*} [AddCommMonoid M] {b n : ℕ} (hn : n = b + b + b) (f : Fin n → M) :
    ∑ k : Fin n, f k = (∑ c : Fin b, f ⟨c, by omega⟩) + (∑ c : Fin b, f ⟨c + b, by omega⟩) + ∑ c : Fin b, f ⟨c + (b + b), by omega⟩ := by
  subst hn
  rw [Fin.sum_univ_add, Fin.sum_univ_add]
  refine congrArg₂ (· + ·) (congrArg₂ (· + ·) rfl ?_) ?_
  · exact Finset.sum_congr rfl fun c _ => congrArg f (Fin.ext (by simp [Nat.add_comm]))
  · exact Finset.sum_congr rfl fun c _ => congrArg f (Fin.ext (by simp [Nat.add_comm]))

/-- A sum over the pooled statistics is the sum over the means plus the sum over the deviations. -/
theorem sum_pool (a s : Fin 128 → EReal) (g : EReal → EReal) :
    ∑ k : Fin 256, g (pool a s k) = (∑ c : Fin 128, g (a c)) + ∑ c : Fin 128, g (dev (a c) (s c)) := by
  rw [show (∑ k : Fin 256, g (pool a s k)) = ∑ k : Fin (128 + 128), g (pool a s k) from rfl, Fin.sum_univ_add]
  refine congrArg₂ (· + ·) (Finset.sum_congr rfl fun c _ => congrArg g ?_) (Finset.sum_congr rfl fun c _ => congrArg g ?_)
  · exact dif_pos c.isLt
  · refine (dif_neg (show ¬ (128 + c.val < 128) by omega)).trans ?_
    have : (⟨128 + c.val - 128, by omega⟩ : Fin 128) = c := Fin.ext (by simp)
    exact congrArg₂ dev (congrArg a this) (congrArg s this)

/-- The mean of the pooled statistics, as two sums. -/
theorem mu_pool (a s : Fin 128 → EReal) :
    mu (pool a s) = Ideal.div ((∑ c : Fin 128, a c) + ∑ c : Fin 128, dev (a c) (s c)) n256 :=
  congrArg (Ideal.div · n256) (sum_pool a s fun z => z)

/-- Their variance, as two sums. -/
theorem var_pool (a s : Fin 128 → EReal) :
    var (pool a s) = Ideal.div ((∑ c : Fin 128, (a c - mu (pool a s)) * (a c - mu (pool a s)))
      + ∑ c : Fin 128, (dev (a c) (s c) - mu (pool a s)) * (dev (a c) (s c) - mu (pool a s))) n256 :=
  congrArg (Ideal.div · n256) (sum_pool a s fun z => (z - mu (pool a s)) * (z - mu (pool a s)))

/-- A contraction with the three shifted copies of a signal, one under the other, is the convolution's three sums. -/
theorem taps {b n d e : ℕ} (hn : n = b + b + b) (hd : e + d = 3000) (w : Fin n → EReal) (h : Fin b → Fin 3000 → EReal) (t : Fin 3000) :
    (∑ x : Fin n, w x * (if hx : x.val < b then (if ht : t.val < d then 0 else h ⟨x.val, hx⟩ ⟨t.val - d, by omega⟩)
      else if hy : x.val - b < b then h ⟨x.val - b, hy⟩ t
      else if ht : t.val < e then h ⟨x.val - b - b, by omega⟩ ⟨d + t.val, by omega⟩ else 0))
    = (∑ c : Fin b, w ⟨c, by omega⟩ * back d h c t) + (∑ c : Fin b, w ⟨c + b, by omega⟩ * h c t)
      + ∑ c : Fin b, w ⟨c + (b + b), by omega⟩ * ahead d h c t := by
  rw [sum_three hn]
  refine congrArg₂ (· + ·) (congrArg₂ (· + ·) ?_ ?_) ?_
  · refine Finset.sum_congr rfl fun c _ => congrArg (w _ * ·) ?_
    rw [dif_pos c.isLt]
    unfold back
    by_cases ht : t.val < d
    · rw [dif_pos ht, if_neg (by omega)]
    · rw [dif_neg ht, if_pos (by omega)]
  · refine Finset.sum_congr rfl fun c _ => congrArg (w _ * ·) ?_
    have h1 : ¬ (c.val + b < b) := by omega
    have h2 : c.val + b - b < b := by have := c.isLt; omega
    rw [dif_neg h1, dif_pos h2]
    exact congrArg (h · t) (Fin.ext (by simp))
  · refine Finset.sum_congr rfl fun c _ => congrArg (w _ * ·) ?_
    have h1 : ¬ (c.val + (b + b) < b) := by omega
    have h2 : ¬ (c.val + (b + b) - b < b) := by omega
    rw [dif_neg h1, dif_neg h2]
    unfold ahead
    by_cases ht : t.val < e
    · rw [dif_pos ht, dif_pos (by omega)]
      exact congrArg₂ h (Fin.ext (by simp; omega)) (Fin.ext (by simp [Nat.add_comm]))
    · rw [dif_neg ht, dif_neg (by omega)]

end Cert.Spec
-- ==== Proof.Value.Shares.lean ====
module

public import proofs.«01_k».proof.Proof.Value.Spec

/-!
# Shares of a total

With finite scores the total of the weights is a positive real, so dividing every weight by it first, or the weighted sum by it
last, is the same.
-/

@[expose] public section

noncomputable section

namespace Cert.Spec

open Idealize.ShloMosaic

/-- A value that is a real number. -/
def IsReal (x : EReal) : Prop := ∃ r : ℝ, x = (r : EReal)

theorem real_of_ne {x : EReal} (h : x ≠ ⊥) (h' : x ≠ ⊤) : IsReal x := ⟨x.toReal, (EReal.coe_toReal h' h).symm⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The hyperbolic tangent is always a real number. -/
theorem real_tanh (x : EReal) : IsReal (Ideal.tanh x) := by
  induction x using EReal.rec with
  | bot => exact ⟨-1, rfl⟩
  | top => exact ⟨1, rfl⟩
  | coe r => exact ⟨_, rfl⟩

/-- Scores are real when the last attention layer's weights and offsets are. -/
theorem real_sc (P : Par) (y : Fin 128 → Fin 3000 → EReal) (hw : ∀ o c, IsReal (P.a2 o c)) (hb : ∀ o, IsReal (P.b2 o)) (o : Fin 128) (t : Fin 3000) :
    IsReal (sc P y o t) :=
  (IsReal.sum _ _ fun c => (hw o c).mul (real_tanh _)).add (hb o)

variable (P : Par) (y : Fin 128 → Fin 3000 → EReal) (hs : ∀ o t, IsReal (sc P y o t))
include hs

theorem real_top (o : Fin 128) : IsReal (top P y o) := by
  refine real_of_ne ?_ ?_
  · obtain ⟨r, hr⟩ := hs o 0
    have : sc P y o 0 ≤ top P y o := Finset.le_fold_max _ |>.2 (Or.inr ⟨0, Finset.mem_univ _, le_rfl⟩)
    rw [hr] at this
    intro h
    rw [h] at this
    exact EReal.coe_ne_bot r (le_bot_iff.1 this)
  · have : top P y o < ⊤ := Finset.fold_max_lt _ |>.2 ⟨bot_lt_top, fun t _ => by
      obtain ⟨r, hr⟩ := hs o t
      rw [hr]; exact EReal.coe_lt_top r⟩
    exact this.ne

/-- Every weight is a positive real. -/
theorem wt_pos (o : Fin 128) (t : Fin 3000) : ∃ r : ℝ, 0 < r ∧ wt P y o t = (r : EReal) := by
  obtain ⟨a, ha⟩ := hs o t
  obtain ⟨b, hb⟩ := real_top P y hs o
  refine ⟨Real.exp (a - b), Real.exp_pos _, ?_⟩
  unfold wt
  rw [ha, hb, ← EReal.coe_sub]
  rfl

/-- So is their total. -/
theorem tot_pos (o : Fin 128) : ∃ r : ℝ, 0 < r ∧ tot P y o = (r : EReal) := by
  choose r hr h using wt_pos P y hs o
  refine ⟨∑ t, r t, Finset.sum_pos (fun t _ => hr t) ⟨0, Finset.mem_univ _⟩, ?_⟩
  have hc : ∀ s : Finset (Fin 3000), (∑ t ∈ s, ((r t : ℝ) : EReal)) = ((∑ t ∈ s, r t : ℝ) : EReal) := by
    intro s
    classical
    induction s using Finset.induction_on with
    | empty => simp
    | insert a s ha ih => rw [Finset.sum_insert ha, Finset.sum_insert ha, ih, EReal.coe_add]
  unfold tot
  rw [Finset.sum_congr rfl fun t _ => h t]
  exact hc _

omit hs in
/-- A sum scaled by a real that is not negative. -/
theorem sum_scale {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

omit hs in
/-- Division by a positive real is the product with its inverse. -/
theorem div_pos_real (x : EReal) (r : ℝ) (hr : 0 < r) : Ideal.div x (r : EReal) = x * ((r⁻¹ : ℝ) : EReal) := by
  unfold Ideal.div
  rw [if_neg (by exact_mod_cast hr.ne'), EReal.coe_inv]

/-- The shares' weighted sum is the weighted sum's share. -/
theorem share_sum (o : Fin 128) (z : Fin 3000 → EReal) :
    (∑ t : Fin 3000, Ideal.div (wt P y o t) (tot P y o) * z t) = (∑ t : Fin 3000, wt P y o t * z t) * Ideal.div one (tot P y o) := by
  obtain ⟨r, hr, h⟩ := tot_pos P y hs o
  rw [h, div_pos_real one r hr, one_mul, sum_scale _ _ _ (inv_pos.2 hr).le]
  refine Finset.sum_congr rfl fun t _ => ?_
  rw [div_pos_real _ r hr, mul_right_comm]

theorem mean_share (o : Fin 128) : (∑ t : Fin 3000, Ideal.div (wt P y o t) (tot P y o) * y o t) = mean P y o :=
  share_sum P y hs o (y o)

theorem msq_share (o : Fin 128) : (∑ t : Fin 3000, Ideal.div (wt P y o t) (tot P y o) * (y o t * y o t)) = msq P y o := by
  rw [share_sum P y hs o fun t => y o t * y o t]
  unfold msq
  refine congrArg (· * _) (Finset.sum_congr rfl fun t _ => (mul_assoc _ _ _).symm)

end Cert.Spec
-- ==== Proof.Value.Bins.lean ====
module

public import proofs.«01_k».proof.Pre_bins_in_order
public import proofs.«01_k».proof.Proof.Value.Shares

/-!
# What the precondition says

Bin points in order, all but the last below 257, and the last attention layer real.
-/

@[expose] public section

noncomputable section

namespace Cert.Pre_bins_in_order.Hand

open Idealize.ShloMosaic Cert.Pre_bins_in_order

theorem facts : Facts where
  slices_S82_S81_0 := by decide
  slices_S82_S81_1 := by decide
  bcast_S_S81 := by decide
  bcast_S_S128x64 := by decide
  bcast_S_S128 := by decide

/-- A comparison's word that is one says that it holds. -/
theorem of_word {p : Prop} [Decidable p] (h : BitVec.ofBool (decide p) = 1#1) : p := by
  by_contra q
  simp [q] at h

theorem inf_word : Ideal.ofBits FTy.f32 0x7F800000#32 = ⊤ := by simp [Ideal.ofBits, Ideal.ieee]

theorem n257_word : (Ideal.ofBits FTy.f32 0x43808000#32 : EReal) = ((257 : ℝ) : EReal) := by
  simp [Ideal.ofBits, Ideal.ieee]
  norm_num
  rw [← EReal.coe_mul]
  norm_num

theorem real_of_abs {x : EReal} (h : max x (-x) < ⊤) : Spec.IsReal x := by
  refine Spec.real_of_ne ?_ ?_
  · rintro rfl; simp at h
  · rintro rfl; simp at h

variable [Facts]
variable (x0 : FVec Ideal S64x3000x257 .f32) (x1 : FVec Ideal S82 .f32) (x2 : FVec Ideal S64x80 .f32) (x3 : FVec Ideal S64 .f32)
  (x4 : FVec Ideal S128x64x3 .f32) (x5 : FVec Ideal S128 .f32) (x6 : FVec Ideal S128x128x3 .f32) (x7 : FVec Ideal S128 .f32)
  (x8 : FVec Ideal S128x128x3 .f32) (x9 : FVec Ideal S128 .f32) (x10 : FVec Ideal S64x128 .f32) (x11 : FVec Ideal S64 .f32)
  (x12 : FVec Ideal S128x64 .f32) (x13 : FVec Ideal S128 .f32) (x14 x15 : FVec Ideal S256 .f32) (x16 : FVec Ideal S512x256 .f32)
  (x17 : FVec Ideal S512 .f32)

theorem sorted (h : (fn (F := Ideal) x0 x1 x2 x3 x4 x5 x6 x7 x8 x9 x10 x11 x12 x13 x14 x15 x16 x17).1 = fun _ => 1#1) (k : Fin 81) :
    (x1 (ix1 k.castSucc) : EReal) ≤ x1 (ix1 k.succ) := by
  have hk := congrFun h (ix1 k)
  pointwise [fn] at hk
  have e : (⟨1 + k.val, by omega⟩ : Fin 82) = k.succ := Fin.ext (Nat.add_comm 1 k.val)
  rw [← e]
  exact of_word hk

theorem below (h : (fn (F := Ideal) x0 x1 x2 x3 x4 x5 x6 x7 x8 x9 x10 x11 x12 x13 x14 x15 x16 x17).2.1 = fun _ => 1#1) (k : Fin 81) :
    (x1 (ix1 k.castSucc) : EReal) < ((257 : ℝ) : EReal) := by
  have hk := congrFun h (ix1 k)
  pointwise [fn] at hk
  rw [← n257_word]
  exact of_word hk

theorem real_w (h : (fn (F := Ideal) x0 x1 x2 x3 x4 x5 x6 x7 x8 x9 x10 x11 x12 x13 x14 x15 x16 x17).2.2.1 = fun _ => 1#1) (o : Fin 128) (c : Fin 64) :
    Spec.IsReal (x12 (ix2 o c)) := by
  have hk := congrFun h (ix2 o c)
  have hk : (max (x12 (ix2 o c) : EReal) (-(x12 (ix2 o c) : EReal))) < Ideal.ofBits FTy.f32 0x7F800000#32 := of_word hk
  rw [inf_word] at hk
  exact real_of_abs hk

theorem real_b (h : (fn (F := Ideal) x0 x1 x2 x3 x4 x5 x6 x7 x8 x9 x10 x11 x12 x13 x14 x15 x16 x17).2.2.2 = fun _ => 1#1) (o : Fin 128) :
    Spec.IsReal (x13 (ix1 o)) := by
  have hk := congrFun h (ix1 o)
  have hk : (max (x13 (ix1 o) : EReal) (-(x13 (ix1 o) : EReal))) < Ideal.ofBits FTy.f32 0x7F800000#32 := of_word hk
  rw [inf_word] at hk
  exact real_of_abs hk

end Cert.Pre_bins_in_order.Hand
-- ==== Proof.KernelIdeal.ValueA.lean ====
module

public import proofs.«01_k».proof.Proof.KernelIdeal.Row
public import proofs.«01_k».proof.Proof.Value.Spec

/-!
# The kernel's row, stage by stage: the filterbank, the hidden layer and the convolutions
-/

@[expose] public section

set_option maxRecDepth 16384

noncomputable section

namespace Cert.KernelIdeal.Hand

open Cert.KernelIdeal.Gen
open Idealize.ShloMosaic Idealize.ShloMosaic.TcCoe Idealize.ShloMosaic.Tactic

/-- A choice by a condition's word is the choice by the condition. -/
theorem sel_ite {α : Type} (q : Prop) [Decidable q] (a b : α) : Scalar.select (if q then 1#1 else 0#1) a b = if q then a else b := by
  by_cases h : q <;> simp [h, Scalar.select]

/-- A whole number read as a float. -/
theorem bin_val (f : Fin 256) : (FloatOps.sitofp FTy.f32 (BitVec.ofNat 32 f.val) : Ideal .f32) = ((f.val : ℝ) : EReal) := by
  have : (BitVec.ofNat 32 f.val).toInt = (f.val : ℤ) := by
    have := f.isLt
    rw [BitVec.toInt_eq_toNat_of_lt] <;> simp <;> omega
  show (((BitVec.ofNat 32 f.val).toInt : ℝ) : EReal) = _
  rw [this]; simp

/-- The pattern of minus infinity. -/
theorem neg_inf : Ideal.ofBits FTy.f32 0xFF800000#32 = ⊥ := by simp [Ideal.ofBits, Ideal.ieee]

/-- Two conditions' words joined. -/
theorem and_sel {α : Type} (a b : Prop) [Decidable a] [Decidable b] (x y : α) :
    Scalar.select (IntOp.andi (BitVec.ofBool (decide a)) (BitVec.ofBool (decide b))) x y = if a ∧ b then x else y := by
  by_cases ha : a <;> by_cases hb : b <;> simp [ha, hb, Scalar.select, IntOp.andi]

theorem bank_at (P : Vec Ideal S80x8 .f32) (n : Fin 80) (f : Fin 256) :
    k0_pay2 P (ix2 n f) = Spec.bankAt (P (ix2 n 0)) (P (ix2 n 1)) (P (ix2 n 2)) (P (ix2 n 3)) (P (ix2 n 4)) (P (ix2 n 5))
      ((f.val : ℝ) : EReal) (P (ix2 n 6)) := by
  pointwise [k0_pay2]
  simp only [bin_val, and_sel]
  rfl

theorem filt_at (xb : Vec Ideal S80x256 .bf16) (v : Vec Ideal S1x257x3000 .f32) (n : Fin 80) (t : Fin 3000) :
    k0_pay4 v xb (ix2 n t) = ∑ f : Fin 256, xb (ix2 n f) * v (ix3 0 ⟨f, by omega⟩ t) := by
  pointwise [k0_pay4, k0_pay3]

/-- The first filter's row, chosen by its number's word. -/
theorem sel_zero {α : Type} (n : Fin 80) (x y : α) :
    Scalar.select (IntOp.cmpi CmpIPredicate.eq (BitVec.ofNat 32 n.val) 0#32) x y = if n.val = 0 then x else y := by
  have : (BitVec.ofNat 32 n.val = 0#32) ↔ n.val = 0 := by
    rw [← BitVec.toNat_inj]; have := n.isLt; simp; omega
  by_cases h : n.val = 0
  · rw [if_pos h, h]; rfl
  · rw [if_neg h]
    have hb : (BitVec.ofNat 32 n.val == 0#32) = false := by simpa using fun e => h (this.mp e)
    unfold Scalar.select IntOp.cmpi
    simp [hb]

/-- A taps' weight array, its three blocks of `b` columns read as taps. -/
def tapW {b m : ℕ} (hm : m = b + b + b) (x : (⟨2, ![128, m]⟩ : Shape).Idx → EReal) (o : Fin 128) (c : Fin b) (k : Fin 3) : EReal :=
  x (ix2 o ⟨c.val + b * k.val, by
    have : b * k.val ≤ b * 2 := Nat.mul_le_mul_left _ (by omega)
    omega⟩)

/-- The programs' parameters, from the kernel's operands. -/
def parOf (x1 : Vec Ideal S64x80 .bf16) (x2 : Vec Ideal S64x1 .f32) (x3 : Vec Ideal S128x192 .bf16) (x4 : Vec Ideal S128x1 .f32) (x5 : Vec Ideal S128x384 .bf16) (x6 : Vec Ideal S128x1 .f32) (x7 : Vec Ideal S128x384 .bf16) (x8 : Vec Ideal S128x1 .f32) (x9 : Vec Ideal S64x128 .bf16) (x10 : Vec Ideal S64x1 .f32) (x11 : Vec Ideal S128x64 .bf16) (x12 : Vec Ideal S128x1 .f32) (x13 : Vec Ideal S256x1 .f32) (x14 : Vec Ideal S256x1 .f32) (x15 : Vec Ideal S256x512 .bf16) (x16 : Vec Ideal S1x512 .f32) : Spec.Par where
  w1 o n := x1 (ix2 o n)
  v1 o := x2 (ix2 o 0)
  c1 := tapW (b := 64) rfl x3
  u1 o := x4 (ix2 o 0)
  c2 := tapW (b := 128) rfl x5
  u2 o := x6 (ix2 o 0)
  c3 := tapW (b := 128) rfl x7
  u3 o := x8 (ix2 o 0)
  a1 o n := x9 (ix2 o n)
  b1 o := x10 (ix2 o 0)
  a2 o n := x11 (ix2 o n)
  b2 o := x12 (ix2 o 0)
  g k := x13 (ix2 k 0)
  be k := x14 (ix2 k 0)
  l q k := x15 (ix2 k q)
  z q := x16 (ix2 0 q)

section Stages
variable (x1 : Vec Ideal S64x80 .bf16) (x2 : Vec Ideal S64x1 .f32) (x3 : Vec Ideal S128x192 .bf16) (x4 : Vec Ideal S128x1 .f32) (x5 : Vec Ideal S128x384 .bf16) (x6 : Vec Ideal S128x1 .f32) (x7 : Vec Ideal S128x384 .bf16) (x8 : Vec Ideal S128x1 .f32) (x9 : Vec Ideal S64x128 .bf16) (x10 : Vec Ideal S64x1 .f32) (x11 : Vec Ideal S128x64 .bf16) (x12 : Vec Ideal S128x1 .f32) (x13 : Vec Ideal S256x1 .f32) (x14 : Vec Ideal S256x1 .f32) (x15 : Vec Ideal S256x512 .bf16) (x16 : Vec Ideal S1x512 .f32)
variable (xb : Vec Ideal S80x256 .bf16) (v : Vec Ideal S1x257x3000 .f32)

theorem i1_at (f : Fin 80 → Fin 3000 → EReal) (v24 : FVec Ideal S257x3000 .f32) (v28 : FVec Ideal S80x3000 .f32)
    (hf : ∀ n t, (if n.val = 0 then v24 (ix2 0 t) else v28 (ix2 n t)) = f n t) (o : Fin 128) (t : Fin 3000) :
    k0_pay6 v24 v28 k0_pay5 x1 x2 x3 x4 (ix2 o t) = Spec.i1 (parOf x1 x2 x3 x4 x5 x6 x7 x8 x9 x10 x11 x12 x13 x14 x15 x16) f o t := by
  pointwise [k0_pay6, k0_pay5]
  simp only [sel_zero, hf]
  exact congrArg (· + x4 (ix2 o 0)) (Spec.taps (b := 64) (d := 2) (e := 2998) rfl rfl (fun x => x3 (ix2 o x)) (Spec.hid (parOf x1 x2 x3 x4 x5 x6 x7 x8 x9 x10 x11 x12 x13 x14 x15 x16) f) t)

theorem t2_at (y : FVec Ideal S128x3000 .f32) (v24 : FVec Ideal S257x3000 .f32) (v28 : FVec Ideal S80x3000 .f32)
    (hy : k0_pay6 v24 v28 k0_pay5 x1 x2 x3 x4 = y) (o : Fin 128) (t : Fin 3000) :
    k0_pay7 v24 v28 k0_pay5 x1 x2 x3 x4 x5 (ix2 o t) + x6 (ix2 o 0) = Spec.conv 3 (Spec.Par.c2 (parOf x1 x2 x3 x4 x5 x6 x7 x8 x9 x10 x11 x12 x13 x14 x15 x16)) (Spec.Par.u2 (parOf x1 x2 x3 x4 x5 x6 x7 x8 x9 x10 x11 x12 x13 x14 x15 x16)) (fun c t => y (ix2 c t)) o t := by
  unfold k0_pay7
  rw [hy]
  pointwise
  exact congrArg (· + x6 (ix2 o 0)) (Spec.taps (b := 128) (d := 3) (e := 2997) rfl rfl (fun x => x5 (ix2 o x)) (fun c t => y (ix2 c t)) t)

theorem i3_at (f : Fin 80 → Fin 3000 → EReal) (y p : FVec Ideal S128x3000 .f32)
    (hy : ∀ o t, y (ix2 o t) = Spec.i1 (parOf x1 x2 x3 x4 x5 x6 x7 x8 x9 x10 x11 x12 x13 x14 x15 x16) f o t) (hp : ∀ o t, p (ix2 o t) + x6 (ix2 o 0) = Spec.conv 3 (Spec.Par.c2 (parOf x1 x2 x3 x4 x5 x6 x7 x8 x9 x10 x11 x12 x13 x14 x15 x16)) (Spec.Par.u2 (parOf x1 x2 x3 x4 x5 x6 x7 x8 x9 x10 x11 x12 x13 x14 x15 x16)) (Spec.i1 (parOf x1 x2 x3 x4 x5 x6 x7 x8 x9 x10 x11 x12 x13 x14 x15 x16) f) o t)
    (o : Fin 128) (t : Fin 3000) :
    k0_pay8 y p x6 x7 x8 (ix2 o t) = Spec.i3 (parOf x1 x2 x3 x4 x5 x6 x7 x8 x9 x10 x11 x12 x13 x14 x15 x16) f o t := by
  pointwise [k0_pay8]
  simp only [hp, hy]
  refine congrArg (· + Spec.i12 (parOf x1 x2 x3 x4 x5 x6 x7 x8 x9 x10 x11 x12 x13 x14 x15 x16) f o t) ?_
  exact congrArg (· + x8 (ix2 o 0)) (Spec.taps (b := 128) (d := 4) (e := 2996) rfl rfl (fun x => x7 (ix2 o x)) (Spec.i12 (parOf x1 x2 x3 x4 x5 x6 x7 x8 x9 x10 x11 x12 x13 x14 x15 x16) f) t)

theorem sc_at (w : Fin 128 → Fin 3000 → EReal) (y p : FVec Ideal S128x3000 .f32)
    (hw : ∀ o t, k0_pay8 y p x6 x7 x8 (ix2 o t) = w o t) (o : Fin 128) (t : Fin 3000) :
    k0_pay9 y p x6 x7 x8 x9 x10 x11 x12 (ix2 o t) = Spec.sc (parOf x1 x2 x3 x4 x5 x6 x7 x8 x9 x10 x11 x12 x13 x14 x15 x16) w o t := by
  pointwise [k0_pay9]
  simp only [hw]
  rfl

theorem top_at (w : Fin 128 → Fin 3000 → EReal) (y p : FVec Ideal S128x3000 .f32)
    (hw : ∀ o t, k0_pay9 y p x6 x7 x8 x9 x10 x11 x12 (ix2 o t) = Spec.sc (parOf x1 x2 x3 x4 x5 x6 x7 x8 x9 x10 x11 x12 x13 x14 x15 x16) w o t) (o : Fin 128) (t : Fin 3000) :
    k0_pay10 y p x6 x7 x8 x9 x10 x11 x12 (ix2 o t) = Spec.top (parOf x1 x2 x3 x4 x5 x6 x7 x8 x9 x10 x11 x12 x13 x14 x15 x16) w o := by
  pointwise [k0_pay10]
  simp only [hw, neg_inf]
  rfl

theorem gn_at (w : Fin 128 → Fin 3000 → EReal) (y e m : FVec Ideal S128x3000 .f32) (hy : ∀ o t, y (ix2 o t) = w o t)
    (he : ∀ o t, e (ix2 o t) = Spec.sc (parOf x1 x2 x3 x4 x5 x6 x7 x8 x9 x10 x11 x12 x13 x14 x15 x16) w o t) (hm : ∀ o t, m (ix2 o t) = Spec.top (parOf x1 x2 x3 x4 x5 x6 x7 x8 x9 x10 x11 x12 x13 x14 x15 x16) w o) (k : Fin 256) :
    k0_pay11 y e m x13 x14 (ix2 k 0) = Spec.gn (parOf x1 x2 x3 x4 x5 x6 x7 x8 x9 x10 x11 x12 x13 x14 x15 x16) (Spec.pool (Spec.mean (parOf x1 x2 x3 x4 x5 x6 x7 x8 x9 x10 x11 x12 x13 x14 x15 x16) w) (Spec.msq (parOf x1 x2 x3 x4 x5 x6 x7 x8 x9 x10 x11 x12 x13 x14 x15 x16) w)) k := by
  pointwise [k0_pay11]
  simp only [hy, he, hm]
  have ha : ∀ o, (∑ t : Fin 3000, Ideal.exp (Spec.sc (parOf x1 x2 x3 x4 x5 x6 x7 x8 x9 x10 x11 x12 x13 x14 x15 x16) w o t - Spec.top (parOf x1 x2 x3 x4 x5 x6 x7 x8 x9 x10 x11 x12 x13 x14 x15 x16) w o) * w o t)
      * Ideal.div 1 (∑ t : Fin 3000, Ideal.exp (Spec.sc (parOf x1 x2 x3 x4 x5 x6 x7 x8 x9 x10 x11 x12 x13 x14 x15 x16) w o t - Spec.top (parOf x1 x2 x3 x4 x5 x6 x7 x8 x9 x10 x11 x12 x13 x14 x15 x16) w o)) = Spec.mean (parOf x1 x2 x3 x4 x5 x6 x7 x8 x9 x10 x11 x12 x13 x14 x15 x16) w o := fun _ => rfl
  have hb : ∀ o, (∑ t : Fin 3000, Ideal.exp (Spec.sc (parOf x1 x2 x3 x4 x5 x6 x7 x8 x9 x10 x11 x12 x13 x14 x15 x16) w o t - Spec.top (parOf x1 x2 x3 x4 x5 x6 x7 x8 x9 x10 x11 x12 x13 x14 x15 x16) w o) * w o t * w o t)
      * Ideal.div 1 (∑ t : Fin 3000, Ideal.exp (Spec.sc (parOf x1 x2 x3 x4 x5 x6 x7 x8 x9 x10 x11 x12 x13 x14 x15 x16) w o t - Spec.top (parOf x1 x2 x3 x4 x5 x6 x7 x8 x9 x10 x11 x12 x13 x14 x15 x16) w o)) = Spec.msq (parOf x1 x2 x3 x4 x5 x6 x7 x8 x9 x10 x11 x12 x13 x14 x15 x16) w o := fun _ => rfl
  simp only [ha, hb]
  rw [Spec.gn, Spec.var_pool, Spec.mu_pool]
  rfl

theorem out_at (g : FVec Ideal S256x1 .bf16) (q : Fin 512) :
    k0_pay12 g x15 x16 (ix3 0 0 q) = (∑ k : Fin 256, g (ix2 k 0) * Spec.Par.l (parOf x1 x2 x3 x4 x5 x6 x7 x8 x9 x10 x11 x12 x13 x14 x15 x16) q k) + Spec.Par.z (parOf x1 x2 x3 x4 x5 x6 x7 x8 x9 x10 x11 x12 x13 x14 x15 x16) q := by
  pointwise [k0_pay12]
  rfl

/-- What the body computes for a row, read at a lane. -/
theorem rowOut_at (q : Fin 512) :
    rowOut x1 x2 x3 x4 x5 x6 x7 x8 x9 x10 x11 x12 x13 x14 x15 x16 xb v (ix3 0 0 q)
      = Spec.row (parOf x1 x2 x3 x4 x5 x6 x7 x8 x9 x10 x11 x12 x13 x14 x15 x16) (fun n f => xb (ix2 n f)) (fun f t => v (ix3 0 f t)) q := by
  have hf : ∀ n t, (if n.val = 0 then k0_pay3 v (ix2 0 t) else k0_pay4 v xb (ix2 n t))
      = Spec.filt (fun n f => xb (ix2 n f)) (fun f t => v (ix3 0 f t)) n t := fun n t => by
    rw [filt_at]
    have : k0_pay3 v (ix2 0 t) = v (ix3 0 0 t) := by pointwise [k0_pay3]
    rw [this]
    rfl
  unfold rowOut
  have h1 := i1_at x1 x2 x3 x4 x5 x6 x7 x8 x9 x10 x11 x12 x13 x14 x15 x16 _ (k0_pay3 v) (k0_pay4 v xb) hf
  have h2 := t2_at x1 x2 x3 x4 x5 x6 x7 x8 x9 x10 x11 x12 x13 x14 x15 x16 _ (k0_pay3 v) (k0_pay4 v xb) rfl
  generalize k0_pay7 (k0_pay3 v) (k0_pay4 v xb) k0_pay5 x1 x2 x3 x4 x5 = p at h2 ⊢
  generalize k0_pay6 (k0_pay3 v) (k0_pay4 v xb) k0_pay5 x1 x2 x3 x4 = y at h1 h2 ⊢
  simp only [h1] at h2
  have h3 := i3_at x1 x2 x3 x4 x5 x6 x7 x8 x9 x10 x11 x12 x13 x14 x15 x16 _ y p h1 h2
  have h4 := sc_at x1 x2 x3 x4 x5 x6 x7 x8 x9 x10 x11 x12 x13 x14 x15 x16 _ y p h3
  have h5 := top_at x1 x2 x3 x4 x5 x6 x7 x8 x9 x10 x11 x12 x13 x14 x15 x16 _ y p h4
  have h6 := gn_at x1 x2 x3 x4 x5 x6 x7 x8 x9 x10 x11 x12 x13 x14 x15 x16 _ _ _ _ h3 h4 h5
  rw [out_at x1 x2 x3 x4 x5 x6 x7 x8 x9 x10 x11 x12 x13 x14]
  simp only [h6]
  rfl
end Stages

end Cert.KernelIdeal.Hand
-- ==== Proof.Value.Words.lean ====
module

public import proofs.«01_k».proof.Proof.Value.Spec

/-!
# Integer words under the extended reals

The filter's mask, and a frequency bin compared with a converted bin point.
-/

@[expose] public section

noncomputable section

namespace Cert.Spec

open Idealize.ShloMosaic

/-- The mask that drops the last filter. -/
theorem mask_val (n : Fin 80) :
    (FloatOps.uitofp (F := Ideal) FTy.f32 (IntOp.cmpi .slt (BitVec.ofNat 32 n.val) 79#32) : EReal) = if n.val < 79 then 1 else 0 := by
  have h : IntOp.cmpi .slt (BitVec.ofNat 32 n.val) 79#32 = if n.val < 79 then 1#1 else 0#1 := by revert n; decide
  rw [h]
  split <;> simp [FloatOps.uitofp]

/-- A bin's number read as a float. -/
theorem bin_word (f : Fin 257) : (FloatOps.sitofp FTy.f32 (BitVec.ofNat 32 f.val) : Ideal .f32) = ((f.val : ℝ) : EReal) := by
  have : (BitVec.ofNat 32 f.val).toInt = (f.val : ℤ) := by
    have := f.isLt
    rw [BitVec.toInt_eq_toNat_of_lt] <;> simp <;> omega
  show (((BitVec.ofNat 32 f.val).toInt : ℝ) : EReal) = _
  rw [this]; simp

/-- The signed value of a bin's number. -/
theorem bin_int (f : Fin 257) : (BitVec.ofNat 32 f.val).toInt = (f.val : ℤ) := by
  have := f.isLt
  rw [BitVec.toInt_eq_toNat_of_lt] <;> simp <;> omega

/-- The integer a point below is converted to. -/
def cut (y : EReal) : ℤ := Ideal.toIntClamped (-(2 ^ (32 - 1) : Nat)) ((2 ^ (32 - 1) : Nat) - 1) (flo y)

theorem flo_bot : flo ⊥ = ⊥ := rfl
theorem flo_top : flo ⊤ = ⊤ := rfl
theorem flo_coe (r : ℝ) : flo (r : EReal) = ((⌊r⌋ : ℝ) : EReal) := rfl
theorem cut_bot : cut ⊥ = -2147483648 := rfl
theorem cut_top : cut ⊤ = 2147483647 := rfl
theorem cut_coe (r : ℝ) : cut (r : EReal) = max (-2147483648) (min 2147483647 ⌊r⌋) := by
  have : cut (r : EReal) = max (-((2 ^ (32 - 1) : Nat) : ℤ)) (min (((2 ^ (32 - 1) : Nat) : ℤ) - 1) (if (0 : ℝ) ≤ (⌊r⌋ : ℝ) then ⌊(⌊r⌋ : ℝ)⌋ else ⌈(⌊r⌋ : ℝ)⌉)) := rfl
  rw [this, Int.floor_intCast, Int.ceil_intCast, ite_self]
  norm_num

theorem cut_range (y : EReal) : -2147483648 ≤ cut y ∧ cut y ≤ 2147483647 := by
  induction y using EReal.rec with
  | bot => rw [cut_bot]; omega
  | top => rw [cut_top]; omega
  | coe r => rw [cut_coe]; omega

theorem cut_word (y : EReal) : (FloatOps.fptosi (F := Ideal) (φ := .f32) 32 (flo y)).toInt = cut y := by
  show (BitVec.ofInt 32 (cut y)).toInt = cut y
  have h := cut_range y
  rw [BitVec.toInt_ofInt]
  simp only [Int.bmod]
  omega

theorem cut_le (y : EReal) (f : Fin 257) : cut y ≤ (f.val : ℤ) ↔ flo y ≤ ((f.val : ℝ) : EReal) := by
  have hf := f.isLt
  induction y using EReal.rec with
  | bot =>
    rw [cut_bot, flo_bot]
    exact ⟨fun _ => bot_le, fun _ => by omega⟩
  | top =>
    rw [cut_top, flo_top, top_le_iff]
    exact ⟨fun h => by omega, fun h => (EReal.coe_ne_top _ h).elim⟩
  | coe r =>
    have : ((⌊r⌋ : ℝ) ≤ (f.val : ℝ)) ↔ ⌊r⌋ ≤ (f.val : ℤ) := by
      rw [show ((f.val : ℝ)) = ((f.val : ℤ) : ℝ) by simp, Int.cast_le]
    rw [cut_coe, flo_coe, EReal.coe_le_coe_iff, this]
    omega

/-- A bin at or past a converted point, by words. -/
theorem sge_word (y : EReal) (f : Fin 257) :
    IntOp.cmpi .sge (BitVec.ofNat 32 f.val) (FloatOps.fptosi (F := Ideal) (φ := .f32) 32 (flo y))
      = BitVec.ofBool (decide (flo y ≤ ((f.val : ℝ) : EReal))) := by
  refine congrArg BitVec.ofBool ?_
  show BitVec.sle _ _ = _
  rw [BitVec.sle_eq_decide, cut_word, bin_int]
  exact decide_eq_decide.2 (cut_le y f)

/-- A bin before a converted point, by words. -/
theorem slt_word (y : EReal) (f : Fin 257) :
    IntOp.cmpi .slt (BitVec.ofNat 32 f.val) (FloatOps.fptosi (F := Ideal) (φ := .f32) 32 (flo y))
      = BitVec.ofBool (decide (((f.val : ℝ) : EReal) < flo y)) := by
  refine congrArg BitVec.ofBool ?_
  show BitVec.slt _ _ = _
  rw [BitVec.slt_eq_decide, cut_word, bin_int]
  exact decide_eq_decide.2 (by rw [← not_le, ← not_le, cut_le])

/-- A point below 257 is never past bin 256. -/
theorem last_bin (y : EReal) (h : y < ((257 : ℝ) : EReal)) : ¬ (((256 : ℕ) : ℝ) : EReal) < flo y := by
  rw [not_lt]
  induction y using EReal.rec with
  | bot => rw [flo_bot]; exact bot_le
  | top => simp at h
  | coe r =>
    have h := EReal.coe_lt_coe_iff.1 h
    rw [flo_coe]
    refine EReal.coe_le_coe_iff.2 ?_
    have : ⌊r⌋ < 257 := Int.floor_lt.2 (by exact_mod_cast h)
    have h2 : ⌊r⌋ ≤ 256 := by omega
    exact_mod_cast h2

/-- So the last bin's value is zero: the filters kept read only the points but the last. -/
theorem bank_last (B : Fin 82 → EReal) (h : ∀ k : Fin 81, B k.castSucc < ((257 : ℝ) : EReal)) (n : Fin 80) : bank B n 256 = 0 := by
  unfold bank bankAt
  by_cases hn : n.val < 79
  · rw [if_neg (fun q => last_bin _ (h ⟨n + 1, by omega⟩) q.2), if_neg (fun q => last_bin _ (h ⟨n + 2, by omega⟩) q.2), zero_mul]
  · rw [if_neg hn, mul_zero]

end Cert.Spec
-- ==== Proof.KernelIdeal.ValueB.lean ====
module

public import proofs.«01_k».proof.Proof.KernelIdeal.Frame
public import proofs.«01_k».proof.Proof.KernelIdeal.ValueA
public import Idealize.ShloMosaic.Lib.StableHlo.ReadAt
public import proofs.«01_k».proof.Proof.Value.Words
public import Idealize.ShloMosaic.Lib.Claim
public import Idealize.ShloMosaic.Lib.Pipeline.ValueKit

/-!
# The operands of the launch

What the host lines before the launch put in each operand, read at an index from the arguments.
-/

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD)

theorem blk0 (t : Fin cfg0.N) (j : S80x8.Idx) : iblk m c 0 t j = V m c main_v21 j := by
  have h : ∀ a, win0_0.index t a = 0 := by intro a; fin_cases a <;> rfl
  blk_ext [iblk, h]
theorem blk1 (t : Fin cfg0.N) (j : S64x80.Idx) : iblk m c 1 t j = V m c main_v22 j := by
  have h : ∀ a, win0_1.index t a = 0 := by intro a; fin_cases a <;> rfl
  blk_ext [iblk, h]
theorem blk2 (t : Fin cfg0.N) (j : S64x1.Idx) : iblk m c 2 t j = V m c main_v36 j := by
  have h : ∀ a, win0_2.index t a = 0 := by intro a; fin_cases a <;> rfl
  blk_ext [iblk, h]
theorem blk3 (t : Fin cfg0.N) (j : S128x192.Idx) : iblk m c 3 t j = V m c main_v25 j := by
  have h : ∀ a, win0_3.index t a = 0 := by intro a; fin_cases a <;> rfl
  blk_ext [iblk, h]
theorem blk4 (t : Fin cfg0.N) (j : S128x1.Idx) : iblk m c 4 t j = V m c main_v37 j := by
  have h : ∀ a, win0_4.index t a = 0 := by intro a; fin_cases a <;> rfl
  blk_ext [iblk, h]
theorem blk5 (t : Fin cfg0.N) (j : S128x384.Idx) : iblk m c 5 t j = V m c main_v28 j := by
  have h : ∀ a, win0_5.index t a = 0 := by intro a; fin_cases a <;> rfl
  blk_ext [iblk, h]
theorem blk6 (t : Fin cfg0.N) (j : S128x1.Idx) : iblk m c 6 t j = V m c main_v38 j := by
  have h : ∀ a, win0_6.index t a = 0 := by intro a; fin_cases a <;> rfl
  blk_ext [iblk, h]
theorem blk7 (t : Fin cfg0.N) (j : S128x384.Idx) : iblk m c 7 t j = V m c main_v31 j := by
  have h : ∀ a, win0_7.index t a = 0 := by intro a; fin_cases a <;> rfl
  blk_ext [iblk, h]
theorem blk8 (t : Fin cfg0.N) (j : S128x1.Idx) : iblk m c 8 t j = V m c main_v39 j := by
  have h : ∀ a, win0_8.index t a = 0 := by intro a; fin_cases a <;> rfl
  blk_ext [iblk, h]
theorem blk9 (t : Fin cfg0.N) (j : S64x128.Idx) : iblk m c 9 t j = V m c main_v32 j := by
  have h : ∀ a, win0_9.index t a = 0 := by intro a; fin_cases a <;> rfl
  blk_ext [iblk, h]
theorem blk10 (t : Fin cfg0.N) (j : S64x1.Idx) : iblk m c 10 t j = V m c main_v40 j := by
  have h : ∀ a, win0_10.index t a = 0 := by intro a; fin_cases a <;> rfl
  blk_ext [iblk, h]
theorem blk11 (t : Fin cfg0.N) (j : S128x64.Idx) : iblk m c 11 t j = V m c main_v33 j := by
  have h : ∀ a, win0_11.index t a = 0 := by intro a; fin_cases a <;> rfl
  blk_ext [iblk, h]
theorem blk12 (t : Fin cfg0.N) (j : S128x1.Idx) : iblk m c 12 t j = V m c main_v41 j := by
  have h : ∀ a, win0_12.index t a = 0 := by intro a; fin_cases a <;> rfl
  blk_ext [iblk, h]
theorem blk13 (t : Fin cfg0.N) (j : S256x1.Idx) : iblk m c 13 t j = V m c main_v42 j := by
  have h : ∀ a, win0_13.index t a = 0 := by intro a; fin_cases a <;> rfl
  blk_ext [iblk, h]
theorem blk14 (t : Fin cfg0.N) (j : S256x1.Idx) : iblk m c 14 t j = V m c main_v43 j := by
  have h : ∀ a, win0_14.index t a = 0 := by intro a; fin_cases a <;> rfl
  blk_ext [iblk, h]
theorem blk15 (t : Fin cfg0.N) (j : S256x512.Idx) : iblk m c 15 t j = V m c main_v35 j := by
  have h : ∀ a, win0_15.index t a = 0 := by intro a; fin_cases a <;> rfl
  blk_ext [iblk, h]
theorem blk16 (t : Fin cfg0.N) (j : S1x512.Idx) : iblk m c 16 t j = V m c main_v44 j := by
  have h : ∀ a, win0_16.index t a = 0 := by intro a; fin_cases a <;> rfl
  blk_ext [iblk, h]

/-- The bin points. -/
abbrev bpts (n : Fin 82) : EReal := m ((c.tc : Thread nD τ).loc main_arg1) (ix1 n)

/-- The table's columns. -/
theorem tab0 (n : Fin 80) : V m c main_v21 (ix2 n 0) = bpts m c ⟨n, by omega⟩ := by
  unfold V; after_reads_at; after_reads_simp; pointwise
theorem tab1 (n : Fin 80) : V m c main_v21 (ix2 n 1) = bpts m c ⟨n + 1, by omega⟩ := by
  unfold V; after_reads_at; after_reads_simp; pointwise; simp only [Nat.add_comm 1]
theorem tab2 (n : Fin 80) : V m c main_v21 (ix2 n 2) = bpts m c ⟨n + 2, by omega⟩ := by
  unfold V; after_reads_at; after_reads_simp; pointwise; simp only [Nat.add_comm 2]
theorem tab3 (n : Fin 80) : V m c main_v21 (ix2 n 3) = Spec.flo (bpts m c ⟨n, by omega⟩) := by
  unfold V; after_reads_at; after_reads_simp; pointwise
theorem tab4 (n : Fin 80) : V m c main_v21 (ix2 n 4) = Spec.flo (bpts m c ⟨n + 1, by omega⟩) := by
  unfold V; after_reads_at; after_reads_simp; pointwise; simp only [Nat.add_comm 1]
theorem tab5 (n : Fin 80) : V m c main_v21 (ix2 n 5) = Spec.flo (bpts m c ⟨n + 2, by omega⟩) := by
  unfold V; after_reads_at; after_reads_simp; pointwise; simp only [Nat.add_comm 2]
theorem tab6 (n : Fin 80) : V m c main_v21 (ix2 n 6) = (if n.val < 79 then (1 : EReal) else 0) := by
  unfold V; after_reads_at; after_reads_simp; pointwise
  exact Spec.mask_val n

/-- The transposed signal. -/
theorem sig_at (f : Fin 257) (b : Fin 64) (t : Fin 3000) : V m c main_v0 (ix3 f b t) = m ((c.tc : Thread nD τ).loc main_arg0) (ix3 b t f) := by
  unfold V; after_reads_at

theorem op1_at (o : Fin 64) (n : Fin 80) : V m c main_v22 (ix2 o n) = m ((c.tc : Thread nD τ).loc main_arg2) (ix2 o n) := by
  unfold V; after_reads_at
theorem op9_at (o : Fin 64) (n : Fin 128) : V m c main_v32 (ix2 o n) = m ((c.tc : Thread nD τ).loc main_arg10) (ix2 o n) := by
  unfold V; after_reads_at
theorem op11_at (o : Fin 128) (n : Fin 64) : V m c main_v33 (ix2 o n) = m ((c.tc : Thread nD τ).loc main_arg12) (ix2 o n) := by
  unfold V; after_reads_at
theorem op15_at (o : Fin 256) (n : Fin 512) : V m c main_v35 (ix2 o n) = m ((c.tc : Thread nD τ).loc main_arg16) (ix2 n o) := by
  unfold V; after_reads_at
theorem op16_at (n : Fin 512) : V m c main_v44 (ix2 0 n) = m ((c.tc : Thread nD τ).loc main_arg17) (ix1 n) := by
  unfold V; after_reads_at
theorem op2_at (o : Fin 64) : V m c main_v36 (ix2 o 0) = m ((c.tc : Thread nD τ).loc main_arg3) (ix1 o) := by
  unfold V; after_reads_at
theorem op4_at (o : Fin 128) : V m c main_v37 (ix2 o 0) = m ((c.tc : Thread nD τ).loc main_arg5) (ix1 o) := by
  unfold V; after_reads_at
theorem op6_at (o : Fin 128) : V m c main_v38 (ix2 o 0) = m ((c.tc : Thread nD τ).loc main_arg7) (ix1 o) := by
  unfold V; after_reads_at
theorem op8_at (o : Fin 128) : V m c main_v39 (ix2 o 0) = m ((c.tc : Thread nD τ).loc main_arg9) (ix1 o) := by
  unfold V; after_reads_at
theorem op10_at (o : Fin 64) : V m c main_v40 (ix2 o 0) = m ((c.tc : Thread nD τ).loc main_arg11) (ix1 o) := by
  unfold V; after_reads_at
theorem op12_at (o : Fin 128) : V m c main_v41 (ix2 o 0) = m ((c.tc : Thread nD τ).loc main_arg13) (ix1 o) := by
  unfold V; after_reads_at
theorem op13_at (o : Fin 256) : V m c main_v42 (ix2 o 0) = m ((c.tc : Thread nD τ).loc main_arg14) (ix1 o) := by
  unfold V; after_reads_at
theorem op14_at (o : Fin 256) : V m c main_v43 (ix2 o 0) = m ((c.tc : Thread nD τ).loc main_arg15) (ix1 o) := by
  unfold V; after_reads_at
theorem op3_at (o : Fin 128) (n : Fin 192) :
    V m c main_v25 (ix2 o n) = m ((c.tc : Thread nD τ).loc main_arg4) (ix3 o ⟨n.val % 64, by omega⟩ ⟨n.val / 64, by omega⟩) := by
  unfold V; after_reads_at
theorem op5_at (o : Fin 128) (n : Fin 384) :
    V m c main_v28 (ix2 o n) = m ((c.tc : Thread nD τ).loc main_arg6) (ix3 o ⟨n.val % 128, by omega⟩ ⟨n.val / 128, by omega⟩) := by
  unfold V; after_reads_at
theorem op7_at (o : Fin 128) (n : Fin 384) :
    V m c main_v31 (ix2 o n) = m ((c.tc : Thread nD τ).loc main_arg8) (ix3 o ⟨n.val % 128, by omega⟩ ⟨n.val / 128, by omega⟩) := by
  unfold V; after_reads_at

end Cert.KernelIdeal.Hand
-- ==== Proof.KernelIdeal.ValueC.lean ====
module

public import proofs.«01_k».proof.Proof.KernelIdeal.ValueB

/-!
# The launch's values from the arguments

The parameters, the filterbank and the rows, read from the arguments.
-/

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD)

/-- The parameters, from the arguments. -/
def parArgs : Spec.Par where
  w1 o n := m ((c.tc : Thread nD τ).loc main_arg2) (ix2 o n)
  v1 o := m ((c.tc : Thread nD τ).loc main_arg3) (ix1 o)
  c1 o n k := m ((c.tc : Thread nD τ).loc main_arg4) (ix3 o n k)
  u1 o := m ((c.tc : Thread nD τ).loc main_arg5) (ix1 o)
  c2 o n k := m ((c.tc : Thread nD τ).loc main_arg6) (ix3 o n k)
  u2 o := m ((c.tc : Thread nD τ).loc main_arg7) (ix1 o)
  c3 o n k := m ((c.tc : Thread nD τ).loc main_arg8) (ix3 o n k)
  u3 o := m ((c.tc : Thread nD τ).loc main_arg9) (ix1 o)
  a1 o n := m ((c.tc : Thread nD τ).loc main_arg10) (ix2 o n)
  b1 o := m ((c.tc : Thread nD τ).loc main_arg11) (ix1 o)
  a2 o n := m ((c.tc : Thread nD τ).loc main_arg12) (ix2 o n)
  b2 o := m ((c.tc : Thread nD τ).loc main_arg13) (ix1 o)
  g k := m ((c.tc : Thread nD τ).loc main_arg14) (ix1 k)
  be k := m ((c.tc : Thread nD τ).loc main_arg15) (ix1 k)
  l q k := m ((c.tc : Thread nD τ).loc main_arg16) (ix2 q k)
  z q := m ((c.tc : Thread nD τ).loc main_arg17) (ix1 q)

/-- A tap's index in the stacked weights. -/
theorem tap_idx {b : ℕ} (c : Fin b) (k : Fin 3) (X : Fin b → Fin 3 → EReal) (hc : (c.val + b * k.val) % b < b) (hk : (c.val + b * k.val) / b < 3) :
    X ⟨(c.val + b * k.val) % b, hc⟩ ⟨(c.val + b * k.val) / b, hk⟩ = X c k := by
  have hb : 0 < b := by have := c.isLt; omega
  have h1 : (c.val + b * k.val) % b = c.val := by rw [Nat.add_mul_mod_self_left]; exact Nat.mod_eq_of_lt c.isLt
  have h2 : (c.val + b * k.val) / b = k.val := by rw [Nat.add_mul_div_left _ _ hb, Nat.div_eq_of_lt c.isLt, Nat.zero_add]
  exact congrArg₂ X (Fin.ext h1) (Fin.ext h2)

/-- The operands' parameters, from what the operands hold. -/
theorem parOf_eq (x1 : Vec Ideal S64x80 .bf16) (x2 : Vec Ideal S64x1 .f32) (x3 : Vec Ideal S128x192 .bf16) (x4 : Vec Ideal S128x1 .f32) (x5 : Vec Ideal S128x384 .bf16) (x6 : Vec Ideal S128x1 .f32) (x7 : Vec Ideal S128x384 .bf16) (x8 : Vec Ideal S128x1 .f32) (x9 : Vec Ideal S64x128 .bf16) (x10 : Vec Ideal S64x1 .f32) (x11 : Vec Ideal S128x64 .bf16) (x12 : Vec Ideal S128x1 .f32) (x13 : Vec Ideal S256x1 .f32) (x14 : Vec Ideal S256x1 .f32) (x15 : Vec Ideal S256x512 .bf16) (x16 : Vec Ideal S1x512 .f32) (P : Spec.Par)
    (h1 : ∀ o n, x1 (ix2 o n) = P.w1 o n)
    (h2 : ∀ o, x2 (ix2 o 0) = P.v1 o)
    (h3 : ∀ o n, x3 (ix2 o n) = P.c1 o ⟨n.val % 64, by omega⟩ ⟨n.val / 64, by omega⟩)
    (h4 : ∀ o, x4 (ix2 o 0) = P.u1 o)
    (h5 : ∀ o n, x5 (ix2 o n) = P.c2 o ⟨n.val % 128, by omega⟩ ⟨n.val / 128, by omega⟩)
    (h6 : ∀ o, x6 (ix2 o 0) = P.u2 o)
    (h7 : ∀ o n, x7 (ix2 o n) = P.c3 o ⟨n.val % 128, by omega⟩ ⟨n.val / 128, by omega⟩)
    (h8 : ∀ o, x8 (ix2 o 0) = P.u3 o)
    (h9 : ∀ o n, x9 (ix2 o n) = P.a1 o n)
    (h10 : ∀ o, x10 (ix2 o 0) = P.b1 o)
    (h11 : ∀ o n, x11 (ix2 o n) = P.a2 o n)
    (h12 : ∀ o, x12 (ix2 o 0) = P.b2 o)
    (h13 : ∀ o, x13 (ix2 o 0) = P.g o)
    (h14 : ∀ o, x14 (ix2 o 0) = P.be o)
    (h15 : ∀ n o, x15 (ix2 n o) = P.l o n)
    (h16 : ∀ o, x16 (ix2 0 o) = P.z o) :
    parOf x1 x2 x3 x4 x5 x6 x7 x8 x9 x10 x11 x12 x13 x14 x15 x16 = P :=
  Spec.Par.ext (funext fun o => funext fun n => h1 o n) (funext fun o => h2 o) (funext fun o => funext fun n => funext fun k => (h3 o _).trans (tap_idx n k (P.c1 o) _ _)) (funext fun o => h4 o) (funext fun o => funext fun n => funext fun k => (h5 o _).trans (tap_idx n k (P.c2 o) _ _)) (funext fun o => h6 o) (funext fun o => funext fun n => funext fun k => (h7 o _).trans (tap_idx n k (P.c3 o) _ _)) (funext fun o => h8 o) (funext fun o => funext fun n => h9 o n) (funext fun o => h10 o) (funext fun o => funext fun n => h11 o n) (funext fun o => h12 o) (funext fun o => h13 o) (funext fun o => h14 o) (funext fun o => funext fun n => h15 n o) (funext fun o => h16 o)

/-- The operands' parameters are the arguments'. -/
theorem par_eq (t : Fin cfg0.N) :
    parOf (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
      = parArgs m c := by
  apply parOf_eq
  · intro o n; rw [blk1 m c t (ix2 o n), op1_at m c o n]; rfl
  · intro o; rw [blk2 m c t (ix2 o 0), op2_at m c o]; rfl
  · intro o n; rw [blk3 m c t (ix2 o n), op3_at m c o n]; rfl
  · intro o; rw [blk4 m c t (ix2 o 0), op4_at m c o]; rfl
  · intro o n; rw [blk5 m c t (ix2 o n), op5_at m c o n]; rfl
  · intro o; rw [blk6 m c t (ix2 o 0), op6_at m c o]; rfl
  · intro o n; rw [blk7 m c t (ix2 o n), op7_at m c o n]; rfl
  · intro o; rw [blk8 m c t (ix2 o 0), op8_at m c o]; rfl
  · intro o n; rw [blk9 m c t (ix2 o n), op9_at m c o n]; rfl
  · intro o; rw [blk10 m c t (ix2 o 0), op10_at m c o]; rfl
  · intro o n; rw [blk11 m c t (ix2 o n), op11_at m c o n]; rfl
  · intro o; rw [blk12 m c t (ix2 o 0), op12_at m c o]; rfl
  · intro o; rw [blk13 m c t (ix2 o 0), op13_at m c o]; rfl
  · intro o; rw [blk14 m c t (ix2 o 0), op14_at m c o]; rfl
  · intro n o; rw [blk15 m c t (ix2 n o), op15_at m c n o]; rfl
  · intro o; rw [blk16 m c t (ix2 0 o), op16_at m c o]; rfl

/-- The filterbank's scratch holds the filterbank of the bin points. -/
theorem bank_args (n : Fin 80) (f : Fin 256) : bank m c (ix2 n f) = Spec.bank (bpts m c) n f.val := by
  unfold bank
  rw [bank_at, blk0 m c start (ix2 n 0), blk0 m c start (ix2 n 1), blk0 m c start (ix2 n 2), blk0 m c start (ix2 n 3), blk0 m c start (ix2 n 4),
    blk0 m c start (ix2 n 5), blk0 m c start (ix2 n 6), tab0 m c n, tab1 m c n, tab2 m c n, tab3 m c n, tab4 m c n, tab5 m c n, tab6 m c n]
  rfl

/-- A row of the transposed signal, its middle axis dropped and a leading one put before it. -/
theorem cast_row (R : FVec Ideal S257x1x3000 .f32) (h : S257x1x3000.ShapeCasts S257x3000) (h' : S257x3000.ShapeCasts S1x257x3000) (f : Fin 257) (t : Fin 3000) :
    (shapeCast S1x257x3000 (shapeCast S257x3000 R h) h' : FVec Ideal S1x257x3000 .f32) (ix3 0 f t) = R (ix3 f 0 t) := by
  pointwise

/-- A row of the transposed signal, as the launch's copies read it. -/
theorem rowVec_at (W : (⟨3, ![257, 64, 3000]⟩ : Shape).Idx → EReal) (b : Fin 64) (f : Fin 257) (t : Fin 3000) :
    rowVec (F := Ideal) (c := c) W b (ix3 0 f t) = W (ix3 f b t) := by
  refine (cast_row (hbM.view.readAt (Elt Ideal) (Rect.unit (s := S257x64x3000) ![0, b.val, 0] S257x1x3000.size (inb_src b)).toLoadRect W)
    (by decide) (by decide) f t).trans ?_
  refine congrArg W (funext fun a => Fin.ext ?_)
  match a with
  | ⟨0, _⟩ => show 0 + 1 * f.val = f.val; omega
  | ⟨1, _⟩ => show b.val + 1 * 0 = b.val; omega
  | ⟨2, _⟩ => show 0 + 1 * t.val = t.val; omega

theorem row_at (b : Fin 64) (f : Fin 257) (t : Fin 3000) :
    rowVec (V m c main_v0) b (ix3 0 f t) = m ((c.tc : Thread nD τ).loc main_arg0) (ix3 b t f) :=
  (rowVec_at c _ b f t).trans (sig_at m c f b t)

/-- Two rows stored in the output block, read back. -/
theorem two_rows (v : View sig .tc .vmem S1x2x512 .f32) (g : v.ty.Contents (Elt Ideal)) (w w' : FVec Ideal S1x1x512 .f32) (r : Fin 2) (q : Fin 512) :
    v.read (Elt Ideal) (v.writes (Elt Ideal) g
      [⟨Rect.unit ![0, 1, 0] S1x1x512.size inb_S1x2x512_S1x1x512_0_1_0, w'⟩, ⟨Rect.unit ![0, 0, 0] S1x1x512.size inb_S1x2x512_S1x1x512_0_0_0, w⟩])
      (ix3 0 r q) = if r.val = 0 then w (ix3 0 0 q) else w' (ix3 0 0 q) := by
  have hr := r.isLt
  by_cases h : r.val = 0
  · rw [if_pos h]
    have h1 := View.read_writes_cons_unit_of_not_mem v g inb_S1x2x512_S1x1x512_0_1_0 w'
      [⟨Rect.unit ![0, 0, 0] S1x1x512.size inb_S1x2x512_S1x1x512_0_0_0, w⟩] (ix3 0 r q) rfl 1 (Or.inl (show r.val < 1 by omega))
    have h2 := View.read_writes_cons_unit_of_mem v g inb_S1x2x512_S1x1x512_0_0_0 w [] (ix3 0 r q) (ix3 0 0 q) rfl (fun a => by
      match a with
      | ⟨0, _⟩ => rfl
      | ⟨1, _⟩ => show r.val = 0 + 0; omega
      | ⟨2, _⟩ => exact (Nat.zero_add _).symm)
    exact h1.trans h2
  · rw [if_neg h]
    exact View.read_writes_cons_unit_of_mem v g inb_S1x2x512_S1x1x512_0_1_0 w' _ (ix3 0 r q) (ix3 0 0 q) rfl (fun a => by
      match a with
      | ⟨0, _⟩ => rfl
      | ⟨1, _⟩ => show r.val = 1 + 0; omega
      | ⟨2, _⟩ => exact (Nat.zero_add _).symm)

/-- The result's entry for batch row `b` at output `q`. -/
def entry (b : Fin 64) (q : Fin 512) : EReal :=
  Spec.row (parArgs m c) (fun n f => Spec.bank (bpts m c) n f.val) (fun f t => m ((c.tc : Thread nD τ).loc main_arg0) (ix3 b t f)) q

/-- A row's output, from the arguments. -/
theorem entry_at (t : Fin cfg0.N) (b : Fin 64) (q : Fin 512) :
    rowOut (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (bank m c)
      (rowVec (V m c main_v0) b) (ix3 0 0 q) = entry m c b q := by
  rw [rowOut_at, par_eq m c t]
  unfold entry
  refine congrArg₂ (fun K X => Spec.row (parArgs m c) K X q) ?_ ?_
  · exact funext fun n => funext fun f => bank_args m c n f
  · exact funext fun f => funext fun t => row_at m c b f t

/-- What a point leaves in its output block. -/
theorem outBlk_at (t : Fin cfg0.N) (r : Fin 2) (q : Fin 512) : outBlk m c t (ix3 0 r q) = entry m c (bI t.val r.val) q := by
  unfold outBlk pieces outPieces
  rw [two_rows, entry_at, entry_at]
  match r with
  | ⟨0, _⟩ => rfl
  | ⟨1, _⟩ => rfl

/-- The array the launch leaves. -/
def arr : (⟨3, ![32, 2, 512]⟩ : Shape).Idx → EReal := fun i => entry m c (bI (i 0).val (i 1).val) (i 2)

theorem arr_eq : (dats m 0 c).arrAt 17 cfg0.N = arr m c := by
  have h0 : ∀ t : Fin cfg0.N, win0_17.index t 0 = t.val := fun t => by
    have ht : t.val < 32 := Nat.lt_of_lt_of_eq t.isLt N_0
    show (BitVec.ofNat 32 _).toNat = _
    rw [coord_val, BitVec.toNat_ofNat, Nat.mod_eq_of_lt (by omega)]
  have h1 : ∀ t : Fin cfg0.N, win0_17.index t 1 = 0 := fun t => rfl
  have h2 : ∀ t : Fin cfg0.N, win0_17.index t 2 = 0 := fun t => rfl
  refine (dats m 0 c).arrAt_eq_of_covers 17 _ (by decide +kernel) fun t hf y => ?_
  blk_simp
  rw [after_17]
  have ht : t.val < 32 := Nat.lt_of_lt_of_eq t.isLt N_0
  have hy : y = (ix3 0 (y 1) (y 2) : S1x2x512.Idx) := by
    funext a
    match a with
    | ⟨0, _⟩ => exact Subsingleton.elim (α := Fin 1) _ _
    | ⟨1, _⟩ => rfl
    | ⟨2, _⟩ => rfl
  have he : (win0_17.blk t).view.emb y = (ix3 ⟨t.val, ht⟩ (y 1) (y 2) : S32x2x512.Idx) := by
    blk_ext [h0, h1, h2]
  rw [he, hy]
  exact outBlk_at m c t (y 1) (y 2)

end Cert.KernelIdeal.Hand
-- ==== Proof.KernelIdeal.ValueD.lean ====
module

public import proofs.«01_k».proof.Proof.KernelIdeal.ValueC

/-!
# The kernel's value

The run ends with the result array holding, at batch row `b` and output `q`, the computation of that row.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL.Sem

variable (m : (ℓ : Loc nD τ sig) → Buf (Elt Ideal) ℓ) (c : Dev nD) (ρ : Dev nD → PrngReg)

/-- The result array. -/
def result : (⟨2, ![64, 512]⟩ : Shape).Idx → EReal := fun i => entry m c (i 0) (i 1)

/-- The launch's array, its first two axes merged, is the result. -/
theorem merge_eq (A : (⟨3, ![32, 2, 512]⟩ : Shape).Idx → EReal) (hA : A = arr m c) (h : S32x2x512.ShapeCasts S64x512) :
    (shapeCast S64x512 (A : FVec Ideal S32x2x512 .f32) h : FVec Ideal S64x512 .f32) = result m c := by
  have key : ∀ (b : Fin 64) (q : Fin 512), (shapeCast S64x512 (A : FVec Ideal S32x2x512 .f32) h : FVec Ideal S64x512 .f32) (ix2 b q)
      = A (ix3 ⟨b.val / 2, by omega⟩ ⟨b.val % 2, by omega⟩ q) := fun b q => by pointwise
  funext i
  refine (congrArg (shapeCast S64x512 (A : FVec Ideal S32x2x512 .f32) h : FVec Ideal S64x512 .f32) (eq_ix2 i)).trans ((key (i 0) (i 1)).trans ?_)
  rw [hA]
  refine congrArg (entry m c · (i 1)) (Fin.ext ?_)
  have h0 : (i 0).val < 64 := (i 0).isLt
  show (2 * ((i 0).val / 2) + (i 0).val % 2) % 64 = (i 0).val
  omega

/-- The windows' arrays are distinct. -/
theorem arrs_injective : Function.Injective (Pipeline.arrRef (cfgs 0).spec) := by decide +kernel

set_option maxHeartbeats 800000 in
theorem tail_eq : Pipeline.afterTail₀ cfgs (dats m) 0 (V0 m) [hostOps1] c main_v46 = result m c := by
  have hA : Pipeline.withArrays (cfgs 0).spec c (V0 m c) (fun w => (dats m 0 c).arrAt w (cfgs 0).N) (Proc.devRef .tc main_v45) = arr m c :=
    (Pipeline.withArrays_arr (cfgs 0).spec arrs_injective c (V0 m c) (fun w => (dats m 0 c).arrAt w (cfgs 0).N) 17).trans (arr_eq m c)
  refine Eq.trans ?_ (merge_eq m c _ hA shapeCasts_S32x2x512_S64x512)
  unfold Pipeline.afterTail₀
  after_reads_simp
  rfl

/-- The run ends with the result in its array and the arguments unchanged. -/
theorem run : θ_run defs (onTc (τ := τ) (main (F := Ideal))) ⟨m, fun _ => 0, ρ⟩ (fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h.1 c).2 main_v46 (Pipeline.mem_restRefs_of main_v46 rfl (by decide))).trans (tail_eq m c),
    kept m main_arg0 rfl (by decide) (by decide) (V_main_arg0 m) h.1 c,
    kept m main_arg1 rfl (by decide) (by decide) (V_main_arg1 m) h.1 c,
    kept m main_arg2 rfl (by decide) (by decide) (V_main_arg2 m) h.1 c,
    kept m main_arg3 rfl (by decide) (by decide) (V_main_arg3 m) h.1 c,
    kept m main_arg4 rfl (by decide) (by decide) (V_main_arg4 m) h.1 c,
    kept m main_arg5 rfl (by decide) (by decide) (V_main_arg5 m) h.1 c,
    kept m main_arg6 rfl (by decide) (by decide) (V_main_arg6 m) h.1 c,
    kept m main_arg7 rfl (by decide) (by decide) (V_main_arg7 m) h.1 c,
    kept m main_arg8 rfl (by decide) (by decide) (V_main_arg8 m) h.1 c,
    kept m main_arg9 rfl (by decide) (by decide) (V_main_arg9 m) h.1 c,
    kept m main_arg10 rfl (by decide) (by decide) (V_main_arg10 m) h.1 c,
    kept m main_arg11 rfl (by decide) (by decide) (V_main_arg11 m) h.1 c,
    kept m main_arg12 rfl (by decide) (by decide) (V_main_arg12 m) h.1 c,
    kept m main_arg13 rfl (by decide) (by decide) (V_main_arg13 m) h.1 c,
    kept m main_arg14 rfl (by decide) (by decide) (V_main_arg14 m) h.1 c,
    kept m main_arg15 rfl (by decide) (by decide) (V_main_arg15 m) h.1 c,
    kept m main_arg16 rfl (by decide) (by decide) (V_main_arg16 m) h.1 c,
    kept m main_arg17 rfl (by decide) (by decide) (V_main_arg17 m) h.1 c⟩) (run_main_quiescent m ρ)

end Cert.KernelIdeal.Hand
-- ==== Proof.ReferenceIdeal.LayerA.lean ====
module

public import proofs.«01_k».proof.Proof.Gen.ReferenceIdeal.Read
public import proofs.«01_k».proof.Proof.Value.Spec

/-!
# The reference's layers, one output at a time
-/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : (⟨S64x3000x257, .f32⟩ : BufTy).Contents (Elt Ideal)) (x1 : (⟨S82, .f32⟩ : BufTy).Contents (Elt Ideal))
  (x2 : (⟨S64x80, .f32⟩ : BufTy).Contents (Elt Ideal)) (x3 : (⟨S64, .f32⟩ : BufTy).Contents (Elt Ideal))
  (x4 : (⟨S128x64x3, .f32⟩ : BufTy).Contents (Elt Ideal)) (x5 : (⟨S128, .f32⟩ : BufTy).Contents (Elt Ideal))
  (x6 : (⟨S128x128x3, .f32⟩ : BufTy).Contents (Elt Ideal)) (x7 : (⟨S128, .f32⟩ : BufTy).Contents (Elt Ideal))
  (x8 : (⟨S128x128x3, .f32⟩ : BufTy).Contents (Elt Ideal)) (x9 : (⟨S128, .f32⟩ : BufTy).Contents (Elt Ideal))
  (x10 : (⟨S64x128, .f32⟩ : BufTy).Contents (Elt Ideal)) (x11 : (⟨S64, .f32⟩ : BufTy).Contents (Elt Ideal))
  (x12 : (⟨S128x64, .f32⟩ : BufTy).Contents (Elt Ideal)) (x13 : (⟨S128, .f32⟩ : BufTy).Contents (Elt Ideal))
  (x14 x15 : (⟨S256, .f32⟩ : BufTy).Contents (Elt Ideal)) (x16 : (⟨S512x256, .f32⟩ : BufTy).Contents (Elt Ideal))
  (x17 : (⟨S512, .f32⟩ : BufTy).Contents (Elt Ideal)) (b : Fin 64)

/-- The integer zero as a float. -/
theorem zero_word : (FloatOps.sitofp FTy.f32 (0#32) : Ideal .f32) = (0 : EReal) := by
  show ((((0#32 : BitVec 32).toInt : ℤ) : ℝ) : EReal) = 0
  simp

/-- Three taps read from a signal padded with zeros on both sides. -/
theorem padded {n : ℕ} (d e : ℕ) (he : e = d + d) (w : Fin 128 → Fin n → Fin 3 → EReal) (v : Fin 128 → EReal)
    (h : Fin n → Fin 3000 → EReal) (o : Fin 128) (t : Fin 3000) :
    (∑ c : Fin n, (if hx : d ≤ t.val ∧ t.val - d < 3000 then h c ⟨t.val - d, hx.2⟩ else (FloatOps.sitofp FTy.f32 (0#32) : Ideal .f32)) * w o c 0)
      + (∑ c : Fin n, h c t * w o c 1)
      + (∑ c : Fin n, (if hx : d ≤ e + t.val ∧ e + t.val - d < 3000 then h c ⟨e + t.val - d, hx.2⟩
          else (FloatOps.sitofp FTy.f32 (0#32) : Ideal .f32)) * w o c 2) + v o
      = Spec.conv d w v h o t := by
  unfold Spec.conv
  rw [zero_word]
  refine congrArg (· + v o) (congrArg₂ (· + ·) (congrArg₂ (· + ·) ?_ ?_) ?_)
  · refine Finset.sum_congr rfl fun c _ => ?_
    rw [mul_comm]
    refine congrArg (w o c 0 * ·) ?_
    unfold Spec.back
    by_cases ht : d ≤ t.val
    · rw [dif_pos ⟨ht, by omega⟩, if_pos ht]
    · rw [dif_neg (fun hx => ht hx.1), if_neg ht]
  · exact Finset.sum_congr rfl fun c _ => mul_comm _ _
  · refine Finset.sum_congr rfl fun c _ => ?_
    rw [mul_comm]
    refine congrArg (w o c 2 * ·) ?_
    unfold Spec.ahead
    by_cases ht : t.val + d < 3000
    · rw [dif_pos ⟨by omega, by omega⟩, dif_pos ht]
      exact congrArg (h c) (Fin.ext (by simp; omega))
    · rw [dif_neg (fun hx => ht (by omega)), dif_neg ht]

theorem hid_at (o : Fin 64) (t : Fin 3000) :
    val_main_v76 (F := Ideal) x0 x1 x2 x3 (ix3 b o t)
      = max (Spec.lin (fun o n => x2 (ix2 o n)) (fun o => x3 (ix1 o)) (fun n t => val_main_v70 (F := Ideal) x0 x1 (ix3 b t n)) o t) 0 := by
  pointwise [val_main_v76, val_main_v75, val_main_v74, val_main_v73, val_main_v72, val_main_v71, val_main_call5_v0, val_main_call5_cst]
  exact congrArg (fun s => max (s + x3 (ix1 o)) 0) (Finset.sum_congr rfl fun c _ => mul_comm _ _)

theorem conv1_at (o : Fin 128) (t : Fin 3000) :
    val_main_v99 (F := Ideal) x0 x1 x2 x3 x4 x5 (ix3 b o t)
      = Spec.conv 2 (fun o c k => x4 (ix3 o c k)) (fun o => x5 (ix1 o)) (fun c t => val_main_v76 (F := Ideal) x0 x1 x2 x3 (ix3 b c t)) o t := by
  pointwise [val_main_v99, val_main_v98, val_main_v97, val_main_v96, val_main_v95, val_main_v94, val_main_v93, val_main_v92, val_main_v91,
    val_main_v90, val_main_v89, val_main_v88, val_main_v87, val_main_v86, val_main_v85, val_main_v84, val_main_v83, val_main_v82,
    val_main_v81, val_main_v80, val_main_v79, val_main_v78, val_main_v77, val_main_call6_v0, val_main_c_5, val_main_cst_6]
  exact padded 2 4 rfl (fun o c k => x4 (ix3 o c k)) (fun o => x5 (ix1 o)) (fun c t => val_main_v76 (F := Ideal) x0 x1 x2 x3 (ix3 b c t)) o t

theorem conv2_at (o : Fin 128) (t : Fin 3000) :
    val_main_v123 (F := Ideal) x0 x1 x2 x3 x4 x5 x6 x7 (ix3 b o t)
      = Spec.conv 3 (fun o c k => x6 (ix3 o c k)) (fun o => x7 (ix1 o)) (fun c t => val_main_v99 (F := Ideal) x0 x1 x2 x3 x4 x5 (ix3 b c t)) o t
        + val_main_v99 (F := Ideal) x0 x1 x2 x3 x4 x5 (ix3 b o t) := by
  pointwise [val_main_v123, val_main_v122, val_main_v121, val_main_v120, val_main_v119, val_main_v118, val_main_v117, val_main_v116, val_main_v115,
    val_main_v114, val_main_v113, val_main_v112, val_main_v111, val_main_v110, val_main_v109, val_main_v108, val_main_v107, val_main_v106,
    val_main_v105, val_main_v104, val_main_v103, val_main_v102, val_main_v101, val_main_v100, val_main_call7_v0, val_main_c_7, val_main_cst_8]
  exact congrArg (· + _) (padded 3 6 rfl (fun o c k => x6 (ix3 o c k)) (fun o => x7 (ix1 o))
    (fun c t => val_main_v99 (F := Ideal) x0 x1 x2 x3 x4 x5 (ix3 b c t)) o t)

theorem conv3_at (o : Fin 128) (t : Fin 3000) :
    val_main_v149 (F := Ideal) x0 x1 x2 x3 x4 x5 x6 x7 x8 x9 (ix3 b o t)
      = Spec.conv 4 (fun o c k => x8 (ix3 o c k)) (fun o => x9 (ix1 o)) (fun c t => val_main_v124 (F := Ideal) x0 x1 x2 x3 x4 x5 x6 x7 (ix3 b c t)) o t
        + val_main_v99 (F := Ideal) x0 x1 x2 x3 x4 x5 (ix3 b o t) + val_main_v123 (F := Ideal) x0 x1 x2 x3 x4 x5 x6 x7 (ix3 b o t) := by
  pointwise [val_main_v149, val_main_v148, val_main_v147, val_main_v146, val_main_v145, val_main_v144, val_main_v143, val_main_v142, val_main_v141,
    val_main_v140, val_main_v139, val_main_v138, val_main_v137, val_main_v136, val_main_v135, val_main_v134, val_main_v133, val_main_v132,
    val_main_v131, val_main_v130, val_main_v129, val_main_v128, val_main_v127, val_main_v126, val_main_v125, val_main_call8_v0, val_main_c_9, val_main_cst_10]
  exact congrArg (· + _ + _) (padded 4 8 rfl (fun o c k => x8 (ix3 o c k)) (fun o => x9 (ix1 o))
    (fun c t => val_main_v124 (F := Ideal) x0 x1 x2 x3 x4 x5 x6 x7 (ix3 b c t)) o t)

theorem att_at (o : Fin 64) (t : Fin 3000) :
    val_main_v155 (F := Ideal) x0 x1 x2 x3 x4 x5 x6 x7 x8 x9 x10 x11 (ix3 b o t)
      = Ideal.tanh (Spec.lin (fun o n => x10 (ix2 o n)) (fun o => x11 (ix1 o))
        (fun n t => val_main_v149 (F := Ideal) x0 x1 x2 x3 x4 x5 x6 x7 x8 x9 (ix3 b n t)) o t) := by
  pointwise [val_main_v155, val_main_v154, val_main_v153, val_main_v152, val_main_v151, val_main_v150]
  rfl

theorem sc_at (o : Fin 128) (t : Fin 3000) :
    val_main_v160 (F := Ideal) x0 x1 x2 x3 x4 x5 x6 x7 x8 x9 x10 x11 x12 x13 (ix3 b o t)
      = Spec.lin (fun o n => x12 (ix2 o n)) (fun o => x13 (ix1 o))
        (fun n t => val_main_v155 (F := Ideal) x0 x1 x2 x3 x4 x5 x6 x7 x8 x9 x10 x11 (ix3 b n t)) o t := by
  pointwise [val_main_v160, val_main_v159, val_main_v158, val_main_v157, val_main_v156]
  rfl

end Cert.ReferenceIdeal.Hand
-- ==== Proof.ReferenceIdeal.LayerB.lean ====
module

public import proofs.«01_k».proof.Proof.Gen.ReferenceIdeal.Read
public import proofs.«01_k».proof.Proof.Value.Spec

/-!
# The reference's layers, one output at a time
-/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : (⟨S64x3000x257, .f32⟩ : BufTy).Contents (Elt Ideal)) (x1 : (⟨S82, .f32⟩ : BufTy).Contents (Elt Ideal))
  (x2 : (⟨S64x80, .f32⟩ : BufTy).Contents (Elt Ideal)) (x3 : (⟨S64, .f32⟩ : BufTy).Contents (Elt Ideal))
  (x4 : (⟨S128x64x3, .f32⟩ : BufTy).Contents (Elt Ideal)) (x5 : (⟨S128, .f32⟩ : BufTy).Contents (Elt Ideal))
  (x6 : (⟨S128x128x3, .f32⟩ : BufTy).Contents (Elt Ideal)) (x7 : (⟨S128, .f32⟩ : BufTy).Contents (Elt Ideal))
  (x8 : (⟨S128x128x3, .f32⟩ : BufTy).Contents (Elt Ideal)) (x9 : (⟨S128, .f32⟩ : BufTy).Contents (Elt Ideal))
  (x10 : (⟨S64x128, .f32⟩ : BufTy).Contents (Elt Ideal)) (x11 : (⟨S64, .f32⟩ : BufTy).Contents (Elt Ideal))
  (x12 : (⟨S128x64, .f32⟩ : BufTy).Contents (Elt Ideal)) (x13 : (⟨S128, .f32⟩ : BufTy).Contents (Elt Ideal))
  (x14 x15 : (⟨S256, .f32⟩ : BufTy).Contents (Elt Ideal)) (x16 : (⟨S512x256, .f32⟩ : BufTy).Contents (Elt Ideal))
  (x17 : (⟨S512, .f32⟩ : BufTy).Contents (Elt Ideal)) (b : Fin 64)

/-- The pattern of minus infinity. -/
theorem bot_word : Ideal.ofBits FTy.f32 0xFF800000#32 = ⊥ := by simp [Ideal.ofBits, Ideal.ieee]

/-- The pattern of 256. -/
theorem n256_word : (Ideal.ofBits FTy.f32 0x43800000#32 : EReal) = ((256 : ℝ) : EReal) := by
  simp [Ideal.ofBits, Ideal.ieee]
  norm_num
  rw [← EReal.coe_mul]
  norm_num

/-- The largest entry along the last axis. -/
theorem max_row (x : S64x128x3000.Idx → Ideal .f32) (v : S_.Idx → Ideal .f32) (o : Fin 128) :
    Host.reduce FloatOps.maximumf x v reducesTo_S64x128x3000_S64x128_d2 h_S_ (ix2 b o)
      = (Finset.univ : Finset (Fin 3000)).fold max (v (Shape.Idx.first h_S_)) (fun t => x (ix3 b o t)) := by
  pointwise []

/-- The largest score of a channel. -/
theorem top_at (o : Fin 128) :
    val_main_v163 (F := Ideal) x0 x1 x2 x3 x4 x5 x6 x7 x8 x9 x10 x11 x12 x13 (ix2 b o)
      = (Finset.univ : Finset (Fin 3000)).fold max ⊥ (fun t => val_main_v160 (F := Ideal) x0 x1 x2 x3 x4 x5 x6 x7 x8 x9 x10 x11 x12 x13 (ix3 b o t)) := by
  rw [val_main_v163_apply]
  unfold val_main_v161
  refine (congrArg (FloatOps.maximumf (F := Ideal) _) (max_row b _ _ o)).trans ?_
  pointwise [val_main_v162, val_main_cst_11, val_main_cst_12]
  rw [bot_word]
  exact max_eq_right bot_le

theorem wt_at (o : Fin 128) (t : Fin 3000) :
    val_main_v167 (F := Ideal) x0 x1 x2 x3 x4 x5 x6 x7 x8 x9 x10 x11 x12 x13 (ix3 b o t)
      = Ideal.exp (val_main_v160 (F := Ideal) x0 x1 x2 x3 x4 x5 x6 x7 x8 x9 x10 x11 x12 x13 (ix3 b o t)
        - val_main_v163 (F := Ideal) x0 x1 x2 x3 x4 x5 x6 x7 x8 x9 x10 x11 x12 x13 (ix2 b o)) := by
  pointwise [val_main_v167, val_main_v166, val_main_v165, val_main_v164]

theorem share_at (o : Fin 128) (t : Fin 3000) :
    val_main_v171 (F := Ideal) x0 x1 x2 x3 x4 x5 x6 x7 x8 x9 x10 x11 x12 x13 (ix3 b o t)
      = Ideal.div (val_main_v167 (F := Ideal) x0 x1 x2 x3 x4 x5 x6 x7 x8 x9 x10 x11 x12 x13 (ix3 b o t))
        (∑ t, val_main_v167 (F := Ideal) x0 x1 x2 x3 x4 x5 x6 x7 x8 x9 x10 x11 x12 x13 (ix3 b o t)) := by
  pointwise [val_main_v171, val_main_v170, val_main_v169, val_main_v168, val_main_cst_13]

theorem mean_at (o : Fin 128) :
    val_main_v173 (F := Ideal) x0 x1 x2 x3 x4 x5 x6 x7 x8 x9 x10 x11 x12 x13 (ix2 b o)
      = ∑ t, val_main_v171 (F := Ideal) x0 x1 x2 x3 x4 x5 x6 x7 x8 x9 x10 x11 x12 x13 (ix3 b o t)
          * val_main_v149 (F := Ideal) x0 x1 x2 x3 x4 x5 x6 x7 x8 x9 (ix3 b o t) := by
  pointwise [val_main_v173, val_main_v172, val_main_cst_14]

theorem msq_at (o : Fin 128) :
    val_main_v176 (F := Ideal) x0 x1 x2 x3 x4 x5 x6 x7 x8 x9 x10 x11 x12 x13 (ix2 b o)
      = ∑ t, val_main_v171 (F := Ideal) x0 x1 x2 x3 x4 x5 x6 x7 x8 x9 x10 x11 x12 x13 (ix3 b o t)
          * (val_main_v149 (F := Ideal) x0 x1 x2 x3 x4 x5 x6 x7 x8 x9 (ix3 b o t)
            * val_main_v149 (F := Ideal) x0 x1 x2 x3 x4 x5 x6 x7 x8 x9 (ix3 b o t)) := by
  pointwise [val_main_v176, val_main_v175, val_main_v174, val_main_cst_15]

theorem pool_at (k : Fin 256) :
    val_main_v181 (F := Ideal) x0 x1 x2 x3 x4 x5 x6 x7 x8 x9 x10 x11 x12 x13 (ix2 b k)
      = Spec.pool (fun o => val_main_v173 (F := Ideal) x0 x1 x2 x3 x4 x5 x6 x7 x8 x9 x10 x11 x12 x13 (ix2 b o))
        (fun o => val_main_v176 (F := Ideal) x0 x1 x2 x3 x4 x5 x6 x7 x8 x9 x10 x11 x12 x13 (ix2 b o)) k := by
  pointwise [val_main_v181, val_main_v180, val_main_v179, val_main_v178, val_main_v177, val_main_call9_v1, val_main_call9_v0, val_main_cst_16]
  rfl

theorem mu_at :
    val_main_v185 (F := Ideal) x0 x1 x2 x3 x4 x5 x6 x7 x8 x9 x10 x11 x12 x13 (ix2 b 0)
      = Spec.mu (fun k => val_main_v181 (F := Ideal) x0 x1 x2 x3 x4 x5 x6 x7 x8 x9 x10 x11 x12 x13 (ix2 b k)) := by
  pointwise [val_main_v185, val_main_v184, val_main_v183, val_main_v182, val_main_cst_17, val_main_cst_18]
  rfl

theorem var_at :
    val_main_v186 (F := Ideal) x0 x1 x2 x3 x4 x5 x6 x7 x8 x9 x10 x11 x12 x13 (ix2 b 0)
      = Spec.var (fun k => val_main_v181 (F := Ideal) x0 x1 x2 x3 x4 x5 x6 x7 x8 x9 x10 x11 x12 x13 (ix2 b k)) := by
  pointwise [val_main_v186, val_main_call10_v13, val_main_call10_v12, val_main_call10_v11, val_main_call10_v10, val_main_call10_v9,
    val_main_call10_v8, val_main_call10_v7, val_main_call10_v6, val_main_call10_v5, val_main_call10_v4, val_main_call10_v3,
    val_main_call10_v2, val_main_call10_v1, val_main_call10_v0, val_main_call10_cst, val_main_call10_cst_0, val_main_call10_cst_1,
    val_main_call10_cst_2, val_main_call10_cst_3, val_main_call10_cst_4, val_main_call10_call0_v0, val_main_call10_call0_v1, val_main_c_19]
  have hz : (FloatOps.sitofp FTy.f32 (0#32) : Ideal .f32) = (0 : EReal) := by
    show ((((0#32 : BitVec 32).toInt : ℤ) : ℝ) : EReal) = 0
    simp
  rw [hz, sub_zero, if_pos (by rw [n256_word]; exact_mod_cast (by norm_num : (0:ℝ) < 256))]
  rfl

theorem gn_at (k : Fin 256) :
    val_main_v199 (F := Ideal) x0 x1 x2 x3 x4 x5 x6 x7 x8 x9 x10 x11 x12 x13 x14 x15 (ix2 b k)
      = Ideal.div (val_main_v181 (F := Ideal) x0 x1 x2 x3 x4 x5 x6 x7 x8 x9 x10 x11 x12 x13 (ix2 b k)
          - val_main_v185 (F := Ideal) x0 x1 x2 x3 x4 x5 x6 x7 x8 x9 x10 x11 x12 x13 (ix2 b 0))
        (Ideal.sqrt (val_main_v186 (F := Ideal) x0 x1 x2 x3 x4 x5 x6 x7 x8 x9 x10 x11 x12 x13 (ix2 b 0)
          + Ideal.ofBits .f32 0x3727C5AC#32)) * x14 (ix1 k) + x15 (ix1 k) := by
  pointwise [val_main_v199, val_main_v198, val_main_v197, val_main_v196, val_main_v195, val_main_v194, val_main_v193, val_main_v192,
    val_main_v191, val_main_v190, val_main_v189, val_main_v188, val_main_v187, val_main_cst_20]

theorem out_at (q : Fin 512) :
    val_main_v204 (F := Ideal) x0 x1 x2 x3 x4 x5 x6 x7 x8 x9 x10 x11 x12 x13 x14 x15 x16 x17 (ix2 b q)
      = (∑ k : Fin 256, val_main_v199 (F := Ideal) x0 x1 x2 x3 x4 x5 x6 x7 x8 x9 x10 x11 x12 x13 x14 x15 (ix2 b k) * x16 (ix2 q k)) + x17 (ix1 q) := by
  pointwise [val_main_v204, val_main_v203, val_main_v202, val_main_v201, val_main_v200]

end Cert.ReferenceIdeal.Hand
-- ==== Proof.ReferenceIdeal.LayerC.lean ====
module

public import proofs.«01_k».proof.Proof.Gen.ReferenceIdeal.Read
public import proofs.«01_k».proof.Proof.Value.Words
public import proofs.«01_k».proof.Proof.KernelIdeal.ValueA
public import Idealize.ShloMosaic.Lib.SortFacts
public import Idealize.ShloMosaic.Lib.Routing.OpsPair
public import Idealize.ShloMosaic.Lib.Routing.OpsSet

/-!
# The reference's filterbank: the sorted bin points, the filters and the filtered rows
-/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : (⟨S64x3000x257, .f32⟩ : BufTy).Contents (Elt Ideal)) (x1 : (⟨S82, .f32⟩ : BufTy).Contents (Elt Ideal))
  (x2 : (⟨S64x80, .f32⟩ : BufTy).Contents (Elt Ideal)) (x3 : (⟨S64, .f32⟩ : BufTy).Contents (Elt Ideal))
  (x4 : (⟨S128x64x3, .f32⟩ : BufTy).Contents (Elt Ideal)) (x5 : (⟨S128, .f32⟩ : BufTy).Contents (Elt Ideal))
  (x6 : (⟨S128x128x3, .f32⟩ : BufTy).Contents (Elt Ideal)) (x7 : (⟨S128, .f32⟩ : BufTy).Contents (Elt Ideal))
  (x8 : (⟨S128x128x3, .f32⟩ : BufTy).Contents (Elt Ideal)) (x9 : (⟨S128, .f32⟩ : BufTy).Contents (Elt Ideal))
  (x10 : (⟨S64x128, .f32⟩ : BufTy).Contents (Elt Ideal)) (x11 : (⟨S64, .f32⟩ : BufTy).Contents (Elt Ideal))
  (x12 : (⟨S128x64, .f32⟩ : BufTy).Contents (Elt Ideal)) (x13 : (⟨S128, .f32⟩ : BufTy).Contents (Elt Ideal))
  (x14 x15 : (⟨S256, .f32⟩ : BufTy).Contents (Elt Ideal)) (x16 : (⟨S512x256, .f32⟩ : BufTy).Contents (Elt Ideal))
  (x17 : (⟨S512, .f32⟩ : BufTy).Contents (Elt Ideal)) (b : Fin 64)

/-- A list in order is what its stable sort returns. -/
theorem stableSort_id {ι : Type} (R : ι → ι → Bool) (l : List ι) (h : l.Pairwise fun a b => R b a = false) : stableSort R l = l := by
  induction l with
  | nil => rfl
  | cons a l ih =>
    rw [List.pairwise_cons] at h
    unfold stableSort
    rw [ih h.2]
    cases l with
    | nil => rfl
    | cons b l => unfold insertBefore; rw [h.1 b List.mem_cons_self]; rfl

/-- Positions in order stay where they are. -/
theorem sortedFrom_id {n : ℕ} (R : Fin n → Fin n → Bool) (h : ∀ a b, a < b → R b a = false) (k : Fin n) : sortedFrom R k = k := by
  have e : sortPositions n R = List.finRange n := by
    unfold sortPositions
    exact stableSort_id R _ ((List.pairwise_lt_finRange n).imp fun {a b} q => h a b q)
  unfold sortedFrom
  rw [List.get_of_eq e]
  simp

/-- The sort's comparison of two values. -/
theorem before_iff (l r : Ideal .f32) : comparator_f32_d0 (F := Ideal) l r = 1#1 ↔ (l : EReal) < r := by
  have key : ∀ x : EReal, Scalar.select (Ideal.cmp .oeq x 0) 0 x = x := by
    intro x
    by_cases h : x = 0 <;> simp [Ideal.cmp, Scalar.select, h]
  have hz : Ideal.ofBits .f32 0x00000000#32 = 0 := by simp [Ideal.ofBits, Ideal.ieee]
  have hn : ∀ (x c : EReal) (y : EReal), Scalar.select (Ideal.cmp .une x x) c y = y := by
    intro x c y; simp [Ideal.cmp, Scalar.select]
  show Ideal.cmp .olt (Scalar.select (Ideal.cmp .une l l) _ (Scalar.select (Ideal.cmp .oeq l (Ideal.ofBits .f32 0x00000000#32)) (Ideal.ofBits .f32 0x00000000#32) l))
    (Scalar.select (Ideal.cmp .une r r) _ (Scalar.select (Ideal.cmp .oeq r (Ideal.ofBits .f32 0x00000000#32)) (Ideal.ofBits .f32 0x00000000#32) r)) = 1#1 ↔ _
  rw [hz, key, key, hn, hn]
  by_cases h : (l : EReal) < r <;> simp [Ideal.cmp, h]

/-- Bin points already in order are what the sort returns. -/
theorem sort_at (h : ∀ k : Fin 81, (x1 (ix1 k.castSucc) : EReal) ≤ x1 (ix1 k.succ)) (k : Fin 82) :
    val_main_v0 (F := Ideal) x1 (ix1 k) = x1 (ix1 k) := by
  have hm : Monotone fun k : Fin 82 => (x1 (ix1 k) : EReal) := Fin.monotone_iff_le_succ.2 h
  have e : ∀ k : Fin 82, (Shape.Idx.ofFin k : S82.Idx) = ix1 k := fun k => eq_ix1 _
  unfold val_main_v0
  refine (Host.sort_rank1 (n := 82) (α := Ideal .f32) (comparator_f32_d0 (F := Ideal)) x1 (ix1 k)).trans ?_
  refine (congrArg (fun z : Fin 82 => x1 (Shape.Idx.ofFin z)) (sortedFrom_id (n := 82) _ ?_ k)).trans (congrArg x1 (e k))
  intro a b hab
  have : ¬ comparator_f32_d0 (F := Ideal) (x1 (ix1 b)) (x1 (ix1 a)) = 1#1 := by
    rw [before_iff]; exact not_lt.2 (hm hab.le)
  rw [e, e]
  simpa using this

theorem bank_at (h : ∀ k : Fin 81, (x1 (ix1 k.castSucc) : EReal) ≤ x1 (ix1 k.succ)) (n : Fin 80) (f : Fin 257) :
    val_main_v65 (F := Ideal) x1 (ix2 n f) = Spec.bank (fun k => x1 (ix1 k)) n f.val := by
  pointwise [val_main_v65, val_main_v64, val_main_v63, val_main_v62, val_main_v61, val_main_v60, val_main_v59, val_main_v58, val_main_v57, val_main_v56,
    val_main_v55, val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_v36,
    val_main_v35, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_c, val_main_cst, val_main_cst_0, val_main_cst_1, val_main_cst_2,
    val_main_cst_3, val_main_call1_v0, val_main_call1_v1, val_main_call2_v0, val_main_call2_v1, val_main_call3_v0, val_main_call3_v1]
  have hone : (id (constant (F := Ideal) S_ FTy.f32 0x3F800000#32) ix0 : EReal) = 1 := by
    show Ideal.ofBits .f32 0x3F800000#32 = 1
    simp [Ideal.ofBits, Ideal.ieee]
    rw [← EReal.coe_mul]
    norm_num
  have hzero : (id (constant (F := Ideal) S_ FTy.f32 0x00000000#32) ix0 : EReal) = 0 := by
    show Ideal.ofBits .f32 0x00000000#32 = 0
    simp [Ideal.ofBits, Ideal.ieee]
  simp only [Nat.add_comm 1, Nat.add_comm 2, sort_at x1 h]
  rw [hone, hzero]
  have ge (y : EReal) := Spec.sge_word y f
  have lt (y : EReal) := Spec.slt_word y f
  unfold Spec.flo at ge lt
  rw [ge, ge, lt, lt, KernelIdeal.Hand.and_sel, KernelIdeal.Hand.and_sel, Spec.bin_word, Spec.mask_val]
  rfl

theorem dot_at (t : Fin 3000) (n : Fin 80) :
    val_main_v66 (F := Ideal) x0 x1 (ix3 b t n) = ∑ f : Fin 257, x0 (ix3 b t f) * val_main_v65 (F := Ideal) x1 (ix2 n f) := by
  pointwise [val_main_v66]

theorem first_at (t : Fin 3000) : val_main_v68 (F := Ideal) x0 (ix2 b t) = x0 (ix3 b t 0) := by
  pointwise [val_main_v68, val_main_v67]

/-- Where a lowest-frequency update lands: filter 0. -/
theorem lands (k : S64x3000.Idx) (t : Fin 3000) (n : Fin 80) :
    scatter_S64x3000x80_S1_S64x3000_01_2_2_0.resultIdx? k (val_main_v69 (F := Ideal)) = some (ix3 b t n)
      ↔ k = ix2 b t ∧ n.val = 0 := by
  rw [Routing.resultIdx?_eq_some]
  have s0 : scatter_S64x3000x80_S1_S64x3000_01_2_2_0.start k (val_main_v69 (F := Ideal)) 0 = 0 := rfl
  have s1 : scatter_S64x3000x80_S1_S64x3000_01_2_2_0.start k (val_main_v69 (F := Ideal)) 1 = 0 := rfl
  have s2 : scatter_S64x3000x80_S1_S64x3000_01_2_2_0.start k (val_main_v69 (F := Ideal)) 2 = 0 := rfl
  have w0 : scatter_S64x3000x80_S1_S64x3000_01_2_2_0.window k 0 = (k 0).val := rfl
  have w1 : scatter_S64x3000x80_S1_S64x3000_01_2_2_0.window k 1 = (k 1).val := rfl
  have w2 : scatter_S64x3000x80_S1_S64x3000_01_2_2_0.window k 2 = 0 := rfl
  constructor
  · intro h
    have h0 := h 0
    have h1 := h 1
    have h2 := h 2
    rw [s0, w0] at h0
    rw [s1, w1] at h1
    rw [s2, w2] at h2
    refine ⟨?_, ?_⟩
    · rw [eq_ix2 k]
      have e0 : k 0 = b := Fin.ext (by simpa using h0)
      have e1 : k 1 = t := Fin.ext (by simpa using h1)
      rw [e0, e1]
    · have : (0 : ℤ) = (n.val : ℤ) := by simpa using h2
      omega
  · rintro ⟨rfl, hn⟩ a
    fin_cases a
    · show scatter_S64x3000x80_S1_S64x3000_01_2_2_0.start (ix2 b t) (val_main_v69 (F := Ideal)) 0
        + (scatter_S64x3000x80_S1_S64x3000_01_2_2_0.window (ix2 b t) 0 : ℤ) = (b.val : ℤ)
      rw [s0, w0, zero_add]; rfl
    · show scatter_S64x3000x80_S1_S64x3000_01_2_2_0.start (ix2 b t) (val_main_v69 (F := Ideal)) 1
        + (scatter_S64x3000x80_S1_S64x3000_01_2_2_0.window (ix2 b t) 1 : ℤ) = (t.val : ℤ)
      rw [s1, w1, zero_add]; rfl
    · show scatter_S64x3000x80_S1_S64x3000_01_2_2_0.start (ix2 b t) (val_main_v69 (F := Ideal)) 2
        + (scatter_S64x3000x80_S1_S64x3000_01_2_2_0.window (ix2 b t) 2 : ℤ) = (n.val : ℤ)
      rw [s2, w2, hn]; rfl

theorem filt_at (h : ∀ k : Fin 81, (x1 (ix1 k.castSucc) : EReal) ≤ x1 (ix1 k.succ)) (hl : ∀ k : Fin 81, (x1 (ix1 k.castSucc) : EReal) < ((257 : ℝ) : EReal))
    (t : Fin 3000) (n : Fin 80) :
    val_main_v70 (F := Ideal) x0 x1 (ix3 b t n)
      = Spec.filt (fun n f => Spec.bank (fun k => x1 (ix1 k)) n f.val) (fun f t => x0 (ix3 b t f)) n t := by
  unfold val_main_v70 Spec.filt
  by_cases hn : n.val = 0
  · rw [if_pos hn]
    refine (Routing.scatter_set_hit _ _ _ _ (ix3 b t n) (x0 (ix3 b t 0)) ?_ (ix2 b t) ((lands b (ix2 b t) t n).2 ⟨rfl, hn⟩))
    intro k hk
    rw [((lands b k t n).1 hk).1, first_at]
  · rw [if_neg hn]
    refine (Routing.scatter_set_miss _ _ _ _ (ix3 b t n) (fun k hk => hn ((lands b k t n).1 hk).2)).trans ?_
    rw [dot_at, Fin.sum_univ_castSucc]
    have hlast : val_main_v65 (F := Ideal) x1 (ix2 n (Fin.last 256)) = (0 : EReal) := by
      rw [bank_at x1 h]; exact Spec.bank_last _ hl n
    rw [hlast, mul_zero, add_zero]
    refine Finset.sum_congr rfl fun f _ => ?_
    rw [bank_at x1 h, mul_comm]
    rfl

end Cert.ReferenceIdeal.Hand
-- ==== Proof.ReferenceIdeal.LayerD.lean ====
module

public import proofs.«01_k».proof.Proof.Gen.ReferenceIdeal.Read
public import proofs.«01_k».proof.Proof.ReferenceIdeal.LayerA
public import proofs.«01_k».proof.Proof.ReferenceIdeal.LayerB
public import proofs.«01_k».proof.Proof.ReferenceIdeal.LayerC
public import proofs.«01_k».proof.Proof.Value.Shares

/-!
# The reference's whole row
-/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : (⟨S64x3000x257, .f32⟩ : BufTy).Contents (Elt Ideal)) (x1 : (⟨S82, .f32⟩ : BufTy).Contents (Elt Ideal))
  (x2 : (⟨S64x80, .f32⟩ : BufTy).Contents (Elt Ideal)) (x3 : (⟨S64, .f32⟩ : BufTy).Contents (Elt Ideal))
  (x4 : (⟨S128x64x3, .f32⟩ : BufTy).Contents (Elt Ideal)) (x5 : (⟨S128, .f32⟩ : BufTy).Contents (Elt Ideal))
  (x6 : (⟨S128x128x3, .f32⟩ : BufTy).Contents (Elt Ideal)) (x7 : (⟨S128, .f32⟩ : BufTy).Contents (Elt Ideal))
  (x8 : (⟨S128x128x3, .f32⟩ : BufTy).Contents (Elt Ideal)) (x9 : (⟨S128, .f32⟩ : BufTy).Contents (Elt Ideal))
  (x10 : (⟨S64x128, .f32⟩ : BufTy).Contents (Elt Ideal)) (x11 : (⟨S64, .f32⟩ : BufTy).Contents (Elt Ideal))
  (x12 : (⟨S128x64, .f32⟩ : BufTy).Contents (Elt Ideal)) (x13 : (⟨S128, .f32⟩ : BufTy).Contents (Elt Ideal))
  (x14 x15 : (⟨S256, .f32⟩ : BufTy).Contents (Elt Ideal)) (x16 : (⟨S512x256, .f32⟩ : BufTy).Contents (Elt Ideal))
  (x17 : (⟨S512, .f32⟩ : BufTy).Contents (Elt Ideal)) (b : Fin 64)

/-- The arguments the two programs share, as functions of plain coordinates. -/
def par : Spec.Par where
  w1 o n := x2 (ix2 o n)
  v1 o := x3 (ix1 o)
  c1 o n k := x4 (ix3 o n k)
  u1 o := x5 (ix1 o)
  c2 o n k := x6 (ix3 o n k)
  u2 o := x7 (ix1 o)
  c3 o n k := x8 (ix3 o n k)
  u3 o := x9 (ix1 o)
  a1 o n := x10 (ix2 o n)
  b1 o := x11 (ix1 o)
  a2 o n := x12 (ix2 o n)
  b2 o := x13 (ix1 o)
  g k := x14 (ix1 k)
  be k := x15 (ix1 k)
  l q k := x16 (ix2 q k)
  z q := x17 (ix1 q)

/-- The convolutions, from the filtered rows. -/
theorem convs (P : Spec.Par) (hP : P = par x2 x3 x4 x5 x6 x7 x8 x9 x10 x11 x12 x13 x14 x15 x16 x17) (f : Fin 80 → Fin 3000 → EReal)
    (hf : (fun n t => val_main_v70 (F := Ideal) x0 x1 (ix3 b t n)) = f) :
    (fun o t => val_main_v149 (F := Ideal) x0 x1 x2 x3 x4 x5 x6 x7 x8 x9 (ix3 b o t)) = Spec.i3 P f := by
  subst hP
  have hh : (fun c t => val_main_v76 (F := Ideal) x0 x1 x2 x3 (ix3 b c t)) = Spec.hid (par x2 x3 x4 x5 x6 x7 x8 x9 x10 x11 x12 x13 x14 x15 x16 x17) f := by
    funext c t
    rw [hid_at, hf]
    rfl
  have h1 : (fun c t => val_main_v99 (F := Ideal) x0 x1 x2 x3 x4 x5 (ix3 b c t)) = Spec.i1 (par x2 x3 x4 x5 x6 x7 x8 x9 x10 x11 x12 x13 x14 x15 x16 x17) f := by
    funext c t
    rw [conv1_at, hh]
    rfl
  have h2 : (fun c t => val_main_v123 (F := Ideal) x0 x1 x2 x3 x4 x5 x6 x7 (ix3 b c t)) = Spec.i2 (par x2 x3 x4 x5 x6 x7 x8 x9 x10 x11 x12 x13 x14 x15 x16 x17) f := by
    funext c t
    rw [conv2_at, h1, congrFun (congrFun h1 c) t]
    rfl
  have h12 : (fun c t => val_main_v124 (F := Ideal) x0 x1 x2 x3 x4 x5 x6 x7 (ix3 b c t)) = Spec.i12 (par x2 x3 x4 x5 x6 x7 x8 x9 x10 x11 x12 x13 x14 x15 x16 x17) f := by
    funext c t
    rw [val_main_v124_apply, congrFun (congrFun h1 c) t, congrFun (congrFun h2 c) t]
    rfl
  funext o t
  rw [conv3_at, h12, congrFun (congrFun h1 o) t, congrFun (congrFun h2 o) t, add_assoc]
  rfl

/-- The pooled means and means of squares. -/
theorem stats (P : Spec.Par) (hP : P = par x2 x3 x4 x5 x6 x7 x8 x9 x10 x11 x12 x13 x14 x15 x16 x17) (y : Fin 128 → Fin 3000 → EReal)
    (hw : ∀ o c, Spec.IsReal (x12 (ix2 o c))) (hb : ∀ o, Spec.IsReal (x13 (ix1 o)))
    (hy : (fun o t => val_main_v149 (F := Ideal) x0 x1 x2 x3 x4 x5 x6 x7 x8 x9 (ix3 b o t)) = y) :
    (fun o => val_main_v173 (F := Ideal) x0 x1 x2 x3 x4 x5 x6 x7 x8 x9 x10 x11 x12 x13 (ix2 b o)) = Spec.mean P y ∧ (fun o => val_main_v176 (F := Ideal) x0 x1 x2 x3 x4 x5 x6 x7 x8 x9 x10 x11 x12 x13 (ix2 b o)) = Spec.msq P y := by
  subst hP
  have hs := Spec.real_sc (par x2 x3 x4 x5 x6 x7 x8 x9 x10 x11 x12 x13 x14 x15 x16 x17) y hw hb
  have ha : (fun o t => val_main_v155 (F := Ideal) x0 x1 x2 x3 x4 x5 x6 x7 x8 x9 x10 x11 (ix3 b o t)) = Spec.att (par x2 x3 x4 x5 x6 x7 x8 x9 x10 x11 x12 x13 x14 x15 x16 x17) y := by
    funext o t
    rw [att_at, hy]
    rfl
  have hc : (fun o t => val_main_v160 (F := Ideal) x0 x1 x2 x3 x4 x5 x6 x7 x8 x9 x10 x11 x12 x13 (ix3 b o t)) = Spec.sc (par x2 x3 x4 x5 x6 x7 x8 x9 x10 x11 x12 x13 x14 x15 x16 x17) y := by
    funext o t
    rw [sc_at, ha]
    rfl
  have ht (o : Fin 128) : val_main_v163 (F := Ideal) x0 x1 x2 x3 x4 x5 x6 x7 x8 x9 x10 x11 x12 x13 (ix2 b o) = Spec.top (par x2 x3 x4 x5 x6 x7 x8 x9 x10 x11 x12 x13 x14 x15 x16 x17) y o := by
    rw [top_at, congrFun hc o]
    rfl
  have hp (o : Fin 128) : (fun t => val_main_v167 (F := Ideal) x0 x1 x2 x3 x4 x5 x6 x7 x8 x9 x10 x11 x12 x13 (ix3 b o t)) = Spec.wt (par x2 x3 x4 x5 x6 x7 x8 x9 x10 x11 x12 x13 x14 x15 x16 x17) y o := by
    funext t
    rw [wt_at, ht, congrFun (congrFun hc o) t]
    rfl
  have hr (o : Fin 128) (t : Fin 3000) : val_main_v171 (F := Ideal) x0 x1 x2 x3 x4 x5 x6 x7 x8 x9 x10 x11 x12 x13 (ix3 b o t)
      = Ideal.div (Spec.wt (par x2 x3 x4 x5 x6 x7 x8 x9 x10 x11 x12 x13 x14 x15 x16 x17) y o t)
        (Spec.tot (par x2 x3 x4 x5 x6 x7 x8 x9 x10 x11 x12 x13 x14 x15 x16 x17) y o) := by
    rw [share_at, hp, congrFun (hp o) t]
    rfl
  constructor
  · funext o
    rw [mean_at, ← Spec.mean_share _ y hs o]
    refine Finset.sum_congr rfl fun t _ => ?_
    rw [hr, congrFun (congrFun hy o) t]
  · funext o
    rw [msq_at, ← Spec.msq_share _ y hs o]
    refine Finset.sum_congr rfl fun t _ => ?_
    rw [hr, congrFun (congrFun hy o) t]

/-- The last layers, from the pooled means and means of squares. -/
theorem tail (P : Spec.Par) (hP : P = par x2 x3 x4 x5 x6 x7 x8 x9 x10 x11 x12 x13 x14 x15 x16 x17) (a s : Fin 128 → EReal)
    (ha : (fun o => val_main_v173 (F := Ideal) x0 x1 x2 x3 x4 x5 x6 x7 x8 x9 x10 x11 x12 x13 (ix2 b o)) = a) (hs : (fun o => val_main_v176 (F := Ideal) x0 x1 x2 x3 x4 x5 x6 x7 x8 x9 x10 x11 x12 x13 (ix2 b o)) = s) (q : Fin 512) :
    val_main_v204 (F := Ideal) x0 x1 x2 x3 x4 x5 x6 x7 x8 x9 x10 x11 x12 x13 x14 x15 x16 x17 (ix2 b q) = Spec.out P (Spec.pool a s) q := by
  subst hP
  have hp : (fun k => val_main_v181 (F := Ideal) x0 x1 x2 x3 x4 x5 x6 x7 x8 x9 x10 x11 x12 x13 (ix2 b k)) = Spec.pool a s := by
    funext k
    rw [pool_at, ha, hs]
  have hm : val_main_v185 (F := Ideal) x0 x1 x2 x3 x4 x5 x6 x7 x8 x9 x10 x11 x12 x13 (ix2 b 0) = Spec.mu (Spec.pool a s) := by
    rw [mu_at, hp]
  have hv : val_main_v186 (F := Ideal) x0 x1 x2 x3 x4 x5 x6 x7 x8 x9 x10 x11 x12 x13 (ix2 b 0) = Spec.var (Spec.pool a s) := by
    rw [var_at, hp]
  have hg (k : Fin 256) : val_main_v199 (F := Ideal) x0 x1 x2 x3 x4 x5 x6 x7 x8 x9 x10 x11 x12 x13 x14 x15 (ix2 b k)
      = Spec.gn (par x2 x3 x4 x5 x6 x7 x8 x9 x10 x11 x12 x13 x14 x15 x16 x17) (Spec.pool a s) k := by
    rw [gn_at, hm, hv, congrFun hp k]
    rfl
  rw [out_at]
  refine congrArg (· + x17 (ix1 q)) (Finset.sum_congr rfl fun k _ => ?_)
  rw [hg]
  rfl

/-- The reference's result, for bin points in order, all but the last below 257, and a real last attention layer. -/
theorem value_at (h : ∀ k : Fin 81, (x1 (ix1 k.castSucc) : EReal) ≤ x1 (ix1 k.succ)) (hl : ∀ k : Fin 81, (x1 (ix1 k.castSucc) : EReal) < ((257 : ℝ) : EReal))
    (hw : ∀ o c, Spec.IsReal (x12 (ix2 o c))) (hb : ∀ o, Spec.IsReal (x13 (ix1 o))) (q : Fin 512) :
    val_main_v204 (F := Ideal) x0 x1 x2 x3 x4 x5 x6 x7 x8 x9 x10 x11 x12 x13 x14 x15 x16 x17 (ix2 b q)
      = Spec.row (par x2 x3 x4 x5 x6 x7 x8 x9 x10 x11 x12 x13 x14 x15 x16 x17) (fun n f => Spec.bank (fun k => x1 (ix1 k)) n f.val)
        (fun f t => x0 (ix3 b t f)) q := by
  have hf := funext fun n => funext fun t => filt_at x0 x1 b h hl t n
  have hy := convs x0 x1 x2 x3 x4 x5 x6 x7 x8 x9 x10 x11 x12 x13 x14 x15 x16 x17 b _ rfl _ hf
  have hms := stats x0 x1 x2 x3 x4 x5 x6 x7 x8 x9 x10 x11 x12 x13 x14 x15 x16 x17 b _ rfl _ hw hb hy
  exact tail x0 x1 x2 x3 x4 x5 x6 x7 x8 x9 x10 x11 x12 x13 x14 x15 x16 x17 b _ rfl _ _ hms.1 hms.2 q

end Cert.ReferenceIdeal.Hand
-- ==== Proof.Value.Equal.lean ====
module

public import proofs.«01_k».proof.Defs
public import proofs.«01_k».proof.Proof.Value.Bins
public import proofs.«01_k».proof.Proof.KernelIdeal.ValueD
public import proofs.«01_k».proof.Proof.ReferenceIdeal.LayerD

/-!
# The two results

Of equal arguments that meet the precondition, the reference's result is the kernel's.
-/

@[expose] public section

noncomputable section

namespace Cert.Value

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- A buffer of the kernel's launch. -/
abbrev kArg (c : Dev Cert.KernelIdeal.nD) (b : Ref Cert.KernelIdeal.sig .tc) :=
  m ((c.tc : Thread Cert.KernelIdeal.nD Cert.KernelIdeal.τ).loc b)

/-- The reference's term, of the kernel's arguments. -/
theorem of_args (hpre : Cert.Pre_KernelIdeal_bins_in_order (hPre_bins_in_order := Cert.Pre_bins_in_order.Hand.facts) m) (c : Dev Cert.KernelIdeal.nD) :
    Cert.ReferenceIdeal.Read.val_main_v204 (F := Ideal) (kArg m c Cert.KernelIdeal.main_arg0) (kArg m c Cert.KernelIdeal.main_arg1) (kArg m c Cert.KernelIdeal.main_arg2) (kArg m c Cert.KernelIdeal.main_arg3) (kArg m c Cert.KernelIdeal.main_arg4) (kArg m c Cert.KernelIdeal.main_arg5) (kArg m c Cert.KernelIdeal.main_arg6) (kArg m c Cert.KernelIdeal.main_arg7) (kArg m c Cert.KernelIdeal.main_arg8) (kArg m c Cert.KernelIdeal.main_arg9) (kArg m c Cert.KernelIdeal.main_arg10) (kArg m c Cert.KernelIdeal.main_arg11) (kArg m c Cert.KernelIdeal.main_arg12) (kArg m c Cert.KernelIdeal.main_arg13) (kArg m c Cert.KernelIdeal.main_arg14) (kArg m c Cert.KernelIdeal.main_arg15) (kArg m c Cert.KernelIdeal.main_arg16) (kArg m c Cert.KernelIdeal.main_arg17)
      = Cert.KernelIdeal.Hand.result m c := by
  letI := Cert.Pre_bins_in_order.Hand.facts
  obtain ⟨h1, h2, h3, h4⟩ := hpre c
  funext i
  rw [eq_ix2 i]
  exact Cert.ReferenceIdeal.Hand.value_at _ _ _ _ _ _ _ _ _ _ _ _ _ _ _ _ _ _ (i 0)
    (Cert.Pre_bins_in_order.Hand.sorted (h := h1)) (Cert.Pre_bins_in_order.Hand.below (h := h2))
    (Cert.Pre_bins_in_order.Hand.real_w (h := h3)) (Cert.Pre_bins_in_order.Hand.real_b (h := h4)) (i 1)

/-- The reference's term, of its own arguments. -/
theorem reference_eq (hpre : Cert.Pre_KernelIdeal_bins_in_order (hPre_bins_in_order := Cert.Pre_bins_in_order.Hand.facts) m) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Read.val_main_v204 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      = Cert.KernelIdeal.Hand.result m c := by
  obtain ⟨e0, e1, e2, e3, e4, e5, e6, e7, e8, e9, e10, e11, e12, e13, e14, e15, e16, e17⟩ := e
  rw [e0, e1, e2, e3, e4, e5, e6, e7, e8, e9, e10, e11, e12, e13, e14, e15, e16, e17]
  exact of_args m hpre c

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Frame
public import proofs.«01_k».proof.Proof.KernelIdeal.Frame
public import proofs.«01_k».proof.Proof.Value.Equal
public import Idealize.ShloMosaic.Adequacy
public import Idealize.ShloMosaic.Init

@[expose] public section

noncomputable section

/-!
# The certificate

The frames of the kernel, of its ideal program and of the reference, and the equality of the last two's results.
-/

namespace Cert.Proof

open Idealize.ShloMosaic Idealize.SL.Sem

/-- The reference's run, read at the arguments; it has no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal program and the reference end with equal results. -/
theorem equal : Cert.algebraic_KernelIdeal_ReferenceIdeal_pre_bins_in_order (hKernelIdeal := Cert.KernelIdeal.Gen.facts)
    (hReferenceIdeal := Cert.ReferenceIdeal.Gen.facts) (hPre_bins_in_order := Cert.Pre_bins_in_order.Hand.facts) := fun m ρ m' ρ' hpre e =>
  ⟨fun c => Cert.KernelIdeal.Hand.result m c, Cert.KernelIdeal.Hand.run m ρ,
    (θ_run Cert.ReferenceIdeal.defs _ _).mono
      (fun _ h c => ⟨(h c).1.trans ((Cert.ReferenceIdeal.Read.val_main_v204_eq _).trans (Cert.Value.reference_eq m m' hpre c (e c))), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_bins_in_order.Hand.facts,
    fun m ρ _ => Cert.Kernel.Hand.frame m ρ, fun m ρ _ => Cert.KernelIdeal.Hand.frame m ρ,
    fun m ρ _ => Cert.KernelIdeal.Hand.frame m ρ, reference_frame, fun m ρ _ => reference_frame m ρ trivial, trivial, equal⟩

end Cert.Proof

end
